-- ==== Defs.lean ====
def Pre_PackKernel (m : (ℓ : Loc Cert.PackKernel.nD Cert.PackKernel.τ Cert.PackKernel.sig) → Buf (Elt Bits) ℓ) : Prop :=
  True

def Pre_PackReference (m : (ℓ : Loc Cert.PackReference.nD Cert.PackReference.τ Cert.PackReference.sig) → Buf (Elt Bits) ℓ) : Prop :=
  True

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite_attn [hPre_finite_attn : Cert.Pre_finite_attn.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attn [hPre_finite_attn : Cert.Pre_finite_attn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1))) = (fun _ => 1#1)

def Pre_GmlpKernel (m : (ℓ : Loc Cert.GmlpKernel.nD Cert.GmlpKernel.τ Cert.GmlpKernel.sig) → Buf (Elt Bits) ℓ) : Prop :=
  True

def Pre_GmlpKernelIdeal (m : (ℓ : Loc Cert.GmlpKernelIdeal.nD Cert.GmlpKernelIdeal.τ Cert.GmlpKernelIdeal.sig) → Buf (Elt Ideal) ℓ) : Prop :=
  True

def Pre_GmlpReferenceIdeal (m : (ℓ : Loc Cert.GmlpReferenceIdeal.nD Cert.GmlpReferenceIdeal.τ Cert.GmlpReferenceIdeal.sig) → Buf (Elt Ideal) ℓ) : Prop :=
  True

def quiescent_PackKernel [hPackKernel : Cert.PackKernel.Facts] : Prop :=
  ∀ (m : (ℓ : Loc Cert.PackKernel.nD Cert.PackKernel.τ Cert.PackKernel.sig) → Buf (Elt Bits) ℓ) (g : Dev Cert.PackKernel.nD → PrngReg), Pre_PackKernel m →
    θ_run (Cert.PackKernel.defs (F := Bits)) (onTc (τ := Cert.PackKernel.τ) (Cert.PackKernel.main (F := Bits))) ⟨m, fun _ => 0, g⟩ (fun r => (∀ c : Dev Cert.PackKernel.nD,
      r.2.mem ((c.tc : Thread Cert.PackKernel.nD Cert.PackKernel.τ).loc Cert.PackKernel.main_arg0) = m ((c.tc : Thread Cert.PackKernel.nD Cert.PackKernel.τ).loc Cert.PackKernel.main_arg0)
      ∧ r.2.mem ((c.tc : Thread Cert.PackKernel.nD Cert.PackKernel.τ).loc Cert.PackKernel.main_arg1) = m ((c.tc : Thread Cert.PackKernel.nD Cert.PackKernel.τ).loc Cert.PackKernel.main_arg1))
      ∧ r.2.sem = fun _ => 0)

def quiescent_PackReference [hPackReference : Cert.PackReference.Facts] : Prop :=
  ∀ (m : (ℓ : Loc Cert.PackReference.nD Cert.PackReference.τ Cert.PackReference.sig) → Buf (Elt Bits) ℓ) (g : Dev Cert.PackReference.nD → PrngReg), Pre_PackReference m →
    θ_run (Cert.PackReference.defs (F := Bits)) (onTc (τ := Cert.PackReference.τ) (Cert.PackReference.main (F := Bits))) ⟨m, fun _ => 0, g⟩ (fun r => (∀ c : Dev Cert.PackReference.nD,
      r.2.mem ((c.tc : Thread Cert.PackReference.nD Cert.PackReference.τ).loc Cert.PackReference.main_arg0) = m ((c.tc : Thread Cert.PackReference.nD Cert.PackReference.τ).loc Cert.PackReference.main_arg0)
      ∧ r.2.mem ((c.tc : Thread Cert.PackReference.nD Cert.PackReference.τ).loc Cert.PackReference.main_arg1) = m ((c.tc : Thread Cert.PackReference.nD Cert.PackReference.τ).loc Cert.PackReference.main_arg1))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1)
      ∧ r.2.mem ((c.tc : Thread Cert.InprojKernel.nD Cert.InprojKernel.τ).loc Cert.InprojKernel.main_arg2) = m ((c.tc : Thread Cert.InprojKernel.nD Cert.InprojKernel.τ).loc Cert.InprojKernel.main_arg2)
      ∧ r.2.mem ((c.tc : Thread Cert.InprojKernel.nD Cert.InprojKernel.τ).loc Cert.InprojKernel.main_arg3) = m ((c.tc : Thread Cert.InprojKernel.nD Cert.InprojKernel.τ).loc Cert.InprojKernel.main_arg3))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ r.2.sem = fun _ => 0)

def quiescent_AttnKernelIdeal_pre_finite_attn [hAttnKernelIdeal : Cert.AttnKernelIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite_attn m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1))
      ∧ r.2.sem = fun _ => 0)

def quiescent_AttnReferenceIdeal_pre_finite_attn [hAttnReferenceIdeal : Cert.AttnReferenceIdeal.Facts] [hPre_finite_attn : Cert.Pre_finite_attn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1))
      ∧ r.2.sem = fun _ => 0)

def quiescent_GmlpKernel [hGmlpKernel : Cert.GmlpKernel.Facts] : Prop :=
  ∀ (m : (ℓ : Loc Cert.GmlpKernel.nD Cert.GmlpKernel.τ Cert.GmlpKernel.sig) → Buf (Elt Bits) ℓ) (g : Dev Cert.GmlpKernel.nD → PrngReg), Pre_GmlpKernel m →
    θ_run (Cert.GmlpKernel.defs (F := Bits)) (onTc (τ := Cert.GmlpKernel.τ) (Cert.GmlpKernel.main (F := Bits))) ⟨m, fun _ => 0, g⟩ (fun r => (∀ c : Dev Cert.GmlpKernel.nD,
      r.2.mem ((c.tc : Thread Cert.GmlpKernel.nD Cert.GmlpKernel.τ).loc Cert.GmlpKernel.main_arg0) = m ((c.tc : Thread Cert.GmlpKernel.nD Cert.GmlpKernel.τ).loc Cert.GmlpKernel.main_arg0)
      ∧ r.2.mem ((c.tc : Thread Cert.GmlpKernel.nD Cert.GmlpKernel.τ).loc Cert.GmlpKernel.main_arg1) = m ((c.tc : Thread Cert.GmlpKernel.nD Cert.GmlpKernel.τ).loc Cert.GmlpKernel.main_arg1)
      ∧ r.2.mem ((c.tc : Thread Cert.GmlpKernel.nD Cert.GmlpKernel.τ).loc Cert.GmlpKernel.main_arg2) = m ((c.tc : Thread Cert.GmlpKernel.nD Cert.GmlpKernel.τ).loc Cert.GmlpKernel.main_arg2)
      ∧ r.2.mem ((c.tc : Thread Cert.GmlpKernel.nD Cert.GmlpKernel.τ).loc Cert.GmlpKernel.main_arg3) = m ((c.tc : Thread Cert.GmlpKernel.nD Cert.GmlpKernel.τ).loc Cert.GmlpKernel.main_arg3)
      ∧ r.2.mem ((c.tc : Thread Cert.GmlpKernel.nD Cert.GmlpKernel.τ).loc Cert.GmlpKernel.main_arg4) = m ((c.tc : Thread Cert.GmlpKernel.nD Cert.GmlpKernel.τ).loc Cert.GmlpKernel.main_arg4))
      ∧ r.2.sem = fun _ => 0)

def quiescent_GmlpKernelIdeal [hGmlpKernelIdeal : Cert.GmlpKernelIdeal.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg), Pre_GmlpKernelIdeal m →
    θ_run (Cert.GmlpKernelIdeal.defs (F := Ideal)) (onTc (τ := Cert.GmlpKernelIdeal.τ) (Cert.GmlpKernelIdeal.main (F := Ideal))) ⟨m, fun _ => 0, g⟩ (fun r => (∀ c : Dev Cert.GmlpKernelIdeal.nD,
      r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
      ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
      ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
      ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
      ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4))
      ∧ r.2.sem = fun _ => 0)

def quiescent_GmlpReferenceIdeal [hGmlpReferenceIdeal : Cert.GmlpReferenceIdeal.Facts] : Prop :=
  ∀ (m : (ℓ : Loc Cert.GmlpReferenceIdeal.nD Cert.GmlpReferenceIdeal.τ Cert.GmlpReferenceIdeal.sig) → Buf (Elt Ideal) ℓ) (g : Dev Cert.GmlpReferenceIdeal.nD → PrngReg), Pre_GmlpReferenceIdeal m →
    θ_run (Cert.GmlpReferenceIdeal.defs (F := Ideal)) (onTc (τ := Cert.GmlpReferenceIdeal.τ) (Cert.GmlpReferenceIdeal.main (F := Ideal))) ⟨m, fun _ => 0, g⟩ (fun r => (∀ c : Dev Cert.GmlpReferenceIdeal.nD,
      r.2.mem ((c.tc : Thread Cert.GmlpReferenceIdeal.nD Cert.GmlpReferenceIdeal.τ).loc Cert.GmlpReferenceIdeal.main_arg0) = m ((c.tc : Thread Cert.GmlpReferenceIdeal.nD Cert.GmlpReferenceIdeal.τ).loc Cert.GmlpReferenceIdeal.main_arg0)
      ∧ r.2.mem ((c.tc : Thread Cert.GmlpReferenceIdeal.nD Cert.GmlpReferenceIdeal.τ).loc Cert.GmlpReferenceIdeal.main_arg1) = m ((c.tc : Thread Cert.GmlpReferenceIdeal.nD Cert.GmlpReferenceIdeal.τ).loc Cert.GmlpReferenceIdeal.main_arg1)
      ∧ r.2.mem ((c.tc : Thread Cert.GmlpReferenceIdeal.nD Cert.GmlpReferenceIdeal.τ).loc Cert.GmlpReferenceIdeal.main_arg2) = m ((c.tc : Thread Cert.GmlpReferenceIdeal.nD Cert.GmlpReferenceIdeal.τ).loc Cert.GmlpReferenceIdeal.main_arg2)
      ∧ r.2.mem ((c.tc : Thread Cert.GmlpReferenceIdeal.nD Cert.GmlpReferenceIdeal.τ).loc Cert.GmlpReferenceIdeal.main_arg3) = m ((c.tc : Thread Cert.GmlpReferenceIdeal.nD Cert.GmlpReferenceIdeal.τ).loc Cert.GmlpReferenceIdeal.main_arg3)
      ∧ r.2.mem ((c.tc : Thread Cert.GmlpReferenceIdeal.nD Cert.GmlpReferenceIdeal.τ).loc Cert.GmlpReferenceIdeal.main_arg4) = m ((c.tc : Thread Cert.GmlpReferenceIdeal.nD Cert.GmlpReferenceIdeal.τ).loc Cert.GmlpReferenceIdeal.main_arg4))
      ∧ r.2.sem = fun _ => 0)

def bitexact_PackKernel_PackReference [hPackKernel : Cert.PackKernel.Facts] [hPackReference : Cert.PackReference.Facts] : Prop :=
  ∀ (m : (ℓ : Loc Cert.PackKernel.nD Cert.PackKernel.τ Cert.PackKernel.sig) → Buf (Elt Bits) ℓ) (g : Dev Cert.PackKernel.nD → PrngReg)
    (m' : (ℓ : Loc Cert.PackReference.nD Cert.PackReference.τ Cert.PackReference.sig) → Buf (Elt Bits) ℓ) (g' : Dev Cert.PackReference.nD → PrngReg), Pre_PackKernel m →
    (∀ c : Dev Cert.PackKernel.nD,
      m' ((c.tc : Thread Cert.PackReference.nD Cert.PackReference.τ).loc Cert.PackReference.main_arg0) = m ((c.tc : Thread Cert.PackKernel.nD Cert.PackKernel.τ).loc Cert.PackKernel.main_arg0)
      ∧ m' ((c.tc : Thread Cert.PackReference.nD Cert.PackReference.τ).loc Cert.PackReference.main_arg1) = m ((c.tc : Thread Cert.PackKernel.nD Cert.PackKernel.τ).loc Cert.PackKernel.main_arg1)) →
    ∃ (v0 : (c : Dev Cert.PackKernel.nD) → Buf (Elt Bits) ((c.tc : Thread Cert.PackKernel.nD Cert.PackKernel.τ).loc Cert.PackKernel.main_v2)),
      θ_run (Cert.PackKernel.defs (F := Bits)) (onTc (τ := Cert.PackKernel.τ) (Cert.PackKernel.main (F := Bits))) ⟨m, fun _ => 0, g⟩ (fun r => ∀ c : Dev Cert.PackKernel.nD,
          r.2.mem ((c.tc : Thread Cert.PackKernel.nD Cert.PackKernel.τ).loc Cert.PackKernel.main_v2) = v0 c
          ∧ r.2.mem ((c.tc : Thread Cert.PackKernel.nD Cert.PackKernel.τ).loc Cert.PackKernel.main_arg0) = m ((c.tc : Thread Cert.PackKernel.nD Cert.PackKernel.τ).loc Cert.PackKernel.main_arg0)
          ∧ r.2.mem ((c.tc : Thread Cert.PackKernel.nD Cert.PackKernel.τ).loc Cert.PackKernel.main_arg1) = m ((c.tc : Thread Cert.PackKernel.nD Cert.PackKernel.τ).loc Cert.PackKernel.main_arg1))
      ∧ θ_run (Cert.PackReference.defs (F := Bits)) (onTc (τ := Cert.PackReference.τ) (Cert.PackReference.main (F := Bits))) ⟨m', fun _ => 0, g'⟩ (fun r => ∀ c : Dev Cert.PackReference.nD,
          r.2.mem ((c.tc : Thread Cert.PackReference.nD Cert.PackReference.τ).loc Cert.PackReference.main_v11) = v0 c
          ∧ r.2.mem ((c.tc : Thread Cert.PackReference.nD Cert.PackReference.τ).loc Cert.PackReference.main_arg0) = m' ((c.tc : Thread Cert.PackReference.nD Cert.PackReference.τ).loc Cert.PackReference.main_arg0)
          ∧ r.2.mem ((c.tc : Thread Cert.PackReference.nD Cert.PackReference.τ).loc Cert.PackReference.main_arg1) = m' ((c.tc : Thread Cert.PackReference.nD Cert.PackReference.τ).loc Cert.PackReference.main_arg1))

def preserves_InprojKernel_InprojKernelIdeal : Prop :=
  True

def algebraic_InprojKernelIdeal_InprojReferenceIdeal [hInprojKernelIdeal : Cert.InprojKernelIdeal.Facts] [hInprojReferenceIdeal : Cert.InprojReferenceIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)
      ∧ m' ((c.tc : Thread Cert.InprojReferenceIdeal.nD Cert.InprojReferenceIdeal.τ).loc Cert.InprojReferenceIdeal.main_arg2) = m ((c.tc : Thread Cert.InprojKernelIdeal.nD Cert.InprojKernelIdeal.τ).loc Cert.InprojKernelIdeal.main_arg2)
      ∧ m' ((c.tc : Thread Cert.InprojReferenceIdeal.nD Cert.InprojReferenceIdeal.τ).loc Cert.InprojReferenceIdeal.main_arg3) = m ((c.tc : Thread Cert.InprojKernelIdeal.nD Cert.InprojKernelIdeal.τ).loc Cert.InprojKernelIdeal.main_arg3)) →
    ∃ (v0 : (c : Dev Cert.InprojKernelIdeal.nD) → Buf (Elt Ideal) ((c.tc : Thread Cert.InprojKernelIdeal.nD Cert.InprojKernelIdeal.τ).loc Cert.InprojKernelIdeal.main_v10)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v10) = v0 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
          ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
          ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v51) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)) →
    ∃ (v0 : (c : Dev Cert.MergeKernelIdeal.nD) → Buf (Elt Ideal) ((c.tc : Thread Cert.MergeKernelIdeal.nD Cert.MergeKernelIdeal.τ).loc Cert.MergeKernelIdeal.main_v9_0)) (v1 : (c : Dev Cert.MergeKernelIdeal.nD) → Buf (Elt Ideal) ((c.tc : Thread Cert.MergeKernelIdeal.nD Cert.MergeKernelIdeal.τ).loc Cert.MergeKernelIdeal.main_v9_1)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v9_0) = v0 c
          ∧ r.2.mem ((c.tc : Thread Cert.MergeKernelIdeal.nD Cert.MergeKernelIdeal.τ).loc Cert.MergeKernelIdeal.main_v9_1) = v1 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v30) = v0 c
          ∧ r.2.mem ((c.tc : Thread Cert.MergeReferenceIdeal.nD Cert.MergeReferenceIdeal.τ).loc Cert.MergeReferenceIdeal.main_v44) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_AttnKernel_AttnKernelIdeal : Prop :=
  IdealRules.named_const.Statement Cert.AttnKernelIdeal.κ "mask" .f32 0xF149F2CA#32 ⊥

def algebraic_AttnKernelIdeal_AttnReferenceIdeal_pre_finite_attn [hAttnKernelIdeal : Cert.AttnKernelIdeal.Facts] [hAttnReferenceIdeal : Cert.AttnReferenceIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite_attn m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)) →
    ∃ (v0 : (c : Dev Cert.AttnKernelIdeal.nD) → Buf (Elt Ideal) ((c.tc : Thread Cert.AttnKernelIdeal.nD Cert.AttnKernelIdeal.τ).loc Cert.AttnKernelIdeal.main_v26_0)) (v1 : (c : Dev Cert.AttnKernelIdeal.nD) → Buf (Elt Ideal) ((c.tc : Thread Cert.AttnKernelIdeal.nD Cert.AttnKernelIdeal.τ).loc Cert.AttnKernelIdeal.main_v26_1)) (v2 : (c : Dev Cert.AttnKernelIdeal.nD) → Buf (Elt Ideal) ((c.tc : Thread Cert.AttnKernelIdeal.nD Cert.AttnKernelIdeal.τ).loc Cert.AttnKernelIdeal.main_v26_2)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v26_0) = v0 c
          ∧ r.2.mem ((c.tc : Thread Cert.AttnKernelIdeal.nD Cert.AttnKernelIdeal.τ).loc Cert.AttnKernelIdeal.main_v26_1) = v1 c
          ∧ r.2.mem ((c.tc : Thread Cert.AttnKernelIdeal.nD Cert.AttnKernelIdeal.τ).loc Cert.AttnKernelIdeal.main_v26_2) = v2 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v89) = v0 c
          ∧ r.2.mem ((c.tc : Thread Cert.AttnReferenceIdeal.nD Cert.AttnReferenceIdeal.τ).loc Cert.AttnReferenceIdeal.main_v91) = v1 c
          ∧ r.2.mem ((c.tc : Thread Cert.AttnReferenceIdeal.nD Cert.AttnReferenceIdeal.τ).loc Cert.AttnReferenceIdeal.main_v93) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1))

def preserves_GmlpKernel_GmlpKernelIdeal : Prop :=
  True

def algebraic_GmlpKernelIdeal_GmlpReferenceIdeal [hGmlpKernelIdeal : Cert.GmlpKernelIdeal.Facts] [hGmlpReferenceIdeal : Cert.GmlpReferenceIdeal.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg)
    (m' : (ℓ : Loc Cert.GmlpReferenceIdeal.nD Cert.GmlpReferenceIdeal.τ Cert.GmlpReferenceIdeal.sig) → Buf (Elt Ideal) ℓ) (g' : Dev Cert.GmlpReferenceIdeal.nD → PrngReg), Pre_GmlpKernelIdeal m →
    (∀ c : Dev Cert.GmlpKernelIdeal.nD,
      m' ((c.tc : Thread Cert.GmlpReferenceIdeal.nD Cert.GmlpReferenceIdeal.τ).loc Cert.GmlpReferenceIdeal.main_arg0) = m ((c.tc : Thread Cert.GmlpKernelIdeal.nD Cert.GmlpKernelIdeal.τ).loc Cert.GmlpKernelIdeal.main_arg0)
      ∧ m' ((c.tc : Thread Cert.GmlpReferenceIdeal.nD Cert.GmlpReferenceIdeal.τ).loc Cert.GmlpReferenceIdeal.main_arg1) = m ((c.tc : Thread Cert.GmlpKernelIdeal.nD Cert.GmlpKernelIdeal.τ).loc Cert.GmlpKernelIdeal.main_arg1)
      ∧ m' ((c.tc : Thread Cert.GmlpReferenceIdeal.nD Cert.GmlpReferenceIdeal.τ).loc Cert.GmlpReferenceIdeal.main_arg2) = m ((c.tc : Thread Cert.GmlpKernelIdeal.nD Cert.GmlpKernelIdeal.τ).loc Cert.GmlpKernelIdeal.main_arg2)
      ∧ m' ((c.tc : Thread Cert.GmlpReferenceIdeal.nD Cert.GmlpReferenceIdeal.τ).loc Cert.GmlpReferenceIdeal.main_arg3) = m ((c.tc : Thread Cert.GmlpKernelIdeal.nD Cert.GmlpKernelIdeal.τ).loc Cert.GmlpKernelIdeal.main_arg3)
      ∧ m' ((c.tc : Thread Cert.GmlpReferenceIdeal.nD Cert.GmlpReferenceIdeal.τ).loc Cert.GmlpReferenceIdeal.main_arg4) = m ((c.tc : Thread Cert.GmlpKernelIdeal.nD Cert.GmlpKernelIdeal.τ).loc Cert.GmlpKernelIdeal.main_arg4)) →
    ∃ (v0 : (c : Dev Cert.GmlpKernelIdeal.nD) → Buf (Elt Ideal) ((c.tc : Thread Cert.GmlpKernelIdeal.nD Cert.GmlpKernelIdeal.τ).loc Cert.GmlpKernelIdeal.main_v19_0)) (v1 : (c : Dev Cert.GmlpKernelIdeal.nD) → Buf (Elt Ideal) ((c.tc : Thread Cert.GmlpKernelIdeal.nD Cert.GmlpKernelIdeal.τ).loc Cert.GmlpKernelIdeal.main_v19_1)),
      θ_run (Cert.GmlpKernelIdeal.defs (F := Ideal)) (onTc (τ := Cert.GmlpKernelIdeal.τ) (Cert.GmlpKernelIdeal.main (F := Ideal))) ⟨m, fun _ => 0, g⟩ (fun r => ∀ c : Dev Cert.GmlpKernelIdeal.nD,
          r.2.mem ((c.tc : Thread Cert.GmlpKernelIdeal.nD Cert.GmlpKernelIdeal.τ).loc Cert.GmlpKernelIdeal.main_v19_0) = v0 c
          ∧ r.2.mem ((c.tc : Thread Cert.GmlpKernelIdeal.nD Cert.GmlpKernelIdeal.τ).loc Cert.GmlpKernelIdeal.main_v19_1) = v1 c
          ∧ r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
          ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
          ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
          ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
          ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4))
      ∧ θ_run (Cert.GmlpReferenceIdeal.defs (F := Ideal)) (onTc (τ := Cert.GmlpReferenceIdeal.τ) (Cert.GmlpReferenceIdeal.main (F := Ideal))) ⟨m', fun _ => 0, g'⟩ (fun r => ∀ c : Dev Cert.GmlpReferenceIdeal.nD,
          r.2.mem ((c.tc : Thread Cert.GmlpReferenceIdeal.nD Cert.GmlpReferenceIdeal.τ).loc Cert.GmlpReferenceIdeal.main_v72) = v0 c
          ∧ r.2.mem ((c.tc : Thread Cert.GmlpReferenceIdeal.nD Cert.GmlpReferenceIdeal.τ).loc Cert.GmlpReferenceIdeal.main_v73) = v1 c
          ∧ r.2.mem ((c.tc : Thread Cert.GmlpReferenceIdeal.nD Cert.GmlpReferenceIdeal.τ).loc Cert.GmlpReferenceIdeal.main_arg0) = m' ((c.tc : Thread Cert.GmlpReferenceIdeal.nD Cert.GmlpReferenceIdeal.τ).loc Cert.GmlpReferenceIdeal.main_arg0)
          ∧ r.2.mem ((c.tc : Thread Cert.GmlpReferenceIdeal.nD Cert.GmlpReferenceIdeal.τ).loc Cert.GmlpReferenceIdeal.main_arg1) = m' ((c.tc : Thread Cert.GmlpReferenceIdeal.nD Cert.GmlpReferenceIdeal.τ).loc Cert.GmlpReferenceIdeal.main_arg1)
          ∧ r.2.mem ((c.tc : Thread Cert.GmlpReferenceIdeal.nD Cert.GmlpReferenceIdeal.τ).loc Cert.GmlpReferenceIdeal.main_arg2) = m' ((c.tc : Thread Cert.GmlpReferenceIdeal.nD Cert.GmlpReferenceIdeal.τ).loc Cert.GmlpReferenceIdeal.main_arg2)
          ∧ r.2.mem ((c.tc : Thread Cert.GmlpReferenceIdeal.nD Cert.GmlpReferenceIdeal.τ).loc Cert.GmlpReferenceIdeal.main_arg3) = m' ((c.tc : Thread Cert.GmlpReferenceIdeal.nD Cert.GmlpReferenceIdeal.τ).loc Cert.GmlpReferenceIdeal.main_arg3)
          ∧ r.2.mem ((c.tc : Thread Cert.GmlpReferenceIdeal.nD Cert.GmlpReferenceIdeal.τ).loc Cert.GmlpReferenceIdeal.main_arg4) = m' ((c.tc : Thread Cert.GmlpReferenceIdeal.nD Cert.GmlpReferenceIdeal.τ).loc Cert.GmlpReferenceIdeal.main_arg4))

def Claim : Prop :=
  ∃ (hPackKernel : Cert.PackKernel.Facts) (hPackReference : Cert.PackReference.Facts) (hInprojKernel : Cert.InprojKernel.Facts) (hInprojKernelIdeal : Cert.InprojKernelIdeal.Facts) (hInprojReferenceIdeal : Cert.InprojReferenceIdeal.Facts) (hMergeKernel : Cert.MergeKernel.Facts) (hMergeKernelIdeal : Cert.MergeKernelIdeal.Facts) (hMergeReferenceIdeal : Cert.MergeReferenceIdeal.Facts) (hAttnKernel : Cert.AttnKernel.Facts) (hAttnKernelIdeal : Cert.AttnKernelIdeal.Facts) (hAttnReferenceIdeal : Cert.AttnReferenceIdeal.Facts) (hGmlpKernel : Cert.GmlpKernel.Facts) (hGmlpKernelIdeal : Cert.GmlpKernelIdeal.Facts) (hGmlpReferenceIdeal : Cert.GmlpReferenceIdeal.Facts) (hPre_finite_attn : Cert.Pre_finite_attn.Facts),
    quiescent_PackKernel (hPackKernel := hPackKernel)
    ∧ quiescent_PackReference (hPackReference := hPackReference)
    ∧ quiescent_InprojKernel (hInprojKernel := hInprojKernel)
    ∧ quiescent_InprojKernelIdeal (hInprojKernelIdeal := hInprojKernelIdeal)
    ∧ quiescent_InprojReferenceIdeal (hInprojReferenceIdeal := hInprojReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_AttnKernel (hAttnKernel := hAttnKernel)
    ∧ quiescent_AttnKernelIdeal (hAttnKernelIdeal := hAttnKernelIdeal)
    ∧ quiescent_AttnKernelIdeal_pre_finite_attn (hAttnKernelIdeal := hAttnKernelIdeal) (hPre_finite_attn := hPre_finite_attn)
    ∧ quiescent_AttnReferenceIdeal (hAttnReferenceIdeal := hAttnReferenceIdeal)
    ∧ quiescent_AttnReferenceIdeal_pre_finite_attn (hAttnReferenceIdeal := hAttnReferenceIdeal) (hPre_finite_attn := hPre_finite_attn)
    ∧ quiescent_GmlpKernel (hGmlpKernel := hGmlpKernel)
    ∧ quiescent_GmlpKernelIdeal (hGmlpKernelIdeal := hGmlpKernelIdeal)
    ∧ quiescent_GmlpReferenceIdeal (hGmlpReferenceIdeal := hGmlpReferenceIdeal)
    ∧ bitexact_PackKernel_PackReference (hPackKernel := hPackKernel) (hPackReference := hPackReference)
    ∧ preserves_InprojKernel_InprojKernelIdeal
    ∧ algebraic_InprojKernelIdeal_InprojReferenceIdeal (hInprojKernelIdeal := hInprojKernelIdeal) (hInprojReferenceIdeal := hInprojReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_AttnKernel_AttnKernelIdeal
    ∧ algebraic_AttnKernelIdeal_AttnReferenceIdeal_pre_finite_attn (hAttnKernelIdeal := hAttnKernelIdeal) (hAttnReferenceIdeal := hAttnReferenceIdeal) (hPre_finite_attn := hPre_finite_attn)
    ∧ preserves_GmlpKernel_GmlpKernelIdeal
    ∧ algebraic_GmlpKernelIdeal_GmlpReferenceIdeal (hGmlpKernelIdeal := hGmlpKernelIdeal) (hGmlpReferenceIdeal := hGmlpReferenceIdeal)
-- ==== Pre_finite_attn.lean ====
abbrev S16896x7680 : Shape := ⟨2, ![16896, 7680]⟩
abbrev S1x16 : Shape := ⟨2, ![1, 16]⟩
abbrev S_ : Shape := ⟨0, ![]⟩

class Facts : Prop where
  bitsLt_bf16_f32 : FTy.bits .bf16 < FTy.bits .f32
  bcast_S_S16896x7680 : S_.BroadcastsInDim S16896x7680 (![] : Fin 0 → Fin S16896x7680.rank)
  reducesTo_S16896x7680_S_d0_1 : S16896x7680.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S16896x7680 .bf16) (main_arg1 : FVec F S1x16 .f32) : IVec S_ 1 :=
  let main_v0 : FVec F S16896x7680 .f32 := (extf .f32 · bitsLt_bf16_f32) main_arg0
  let main_v1 : FVec F S16896x7680 .f32 := Host.absf main_v0
  let main_cst : FVec F S_ .f32 := constant S_ .f32 0x7F800000#32
  let main_v2 : FVec F S16896x7680 .f32 := broadcastInDim S16896x7680 ![] bcast_S_S16896x7680 main_cst
  let main_v3 : IVec S16896x7680 1 := cmpf .olt main_v1 main_v2
  let main_c : IVec S_ 1 := constantI S_ 1 1#1
  let main_v4 : IVec S_ 1 := (fun x v => Host.reduce IntOp.andi x v reducesTo_S16896x7680_S_d0_1 h_S_) main_v3 main_c
  let main_v5 : FVec F S1x16 .f32 := Host.absf main_arg1
  let main_cst_0 : FVec F S_ .f32 := constant S_ .f32 0x7F800000#32
  let main_v6 : FVec F S1x16 .f32 := broadcastInDim S1x16 ![] bcast_S_S1x16 main_cst_0
  let main_v7 : IVec S1x16 1 := cmpf .olt main_v5 main_v6
  let main_c_1 : IVec S_ 1 := constantI S_ 1 1#1
  let main_v8 : IVec S_ 1 := (fun x v => Host.reduce IntOp.andi x v reducesTo_S1x16_S_d0_1 h_S_) main_v7 main_c_1
  let main_v9 : IVec S_ 1 := andi main_v4 main_v8
  main_v9
-- ==== PackKernel.lean ====
abbrev S1x16384x2048 : Shape := ⟨3, ![1, 16384, 2048]⟩
abbrev S16384x2048 : Shape := ⟨2, ![16384, 2048]⟩
abbrev S16384x16x128 : Shape := ⟨3, ![16384, 16, 128]⟩
abbrev S256x2048 : Shape := ⟨2, ![256, 2048]⟩
abbrev S256x16x128 : Shape := ⟨3, ![256, 16, 128]⟩
abbrev S256x128 : Shape := ⟨2, ![256, 128]⟩
abbrev S256x1x128 : Shape := ⟨3, ![256, 1, 128]⟩

abbrev nBuf : Space → Nat
  | .hbm => 5
  | .vmem => 6
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S16384x2048, .f32⟩
  | .hbm, ⟨3, _⟩ => ⟨S16384x2048, .f32⟩
  | .hbm, ⟨4, _⟩ => ⟨S16384x16x128, .i32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x16x128, .i32⟩
  | .local _ .vmem, ⟨5, _⟩ => ⟨S256x16x128, .i32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PackReference.lean ====
abbrev S1x16384x2048 : Shape := ⟨3, ![1, 16384, 2048]⟩
abbrev S16384x2048 : Shape := ⟨2, ![16384, 2048]⟩
abbrev S_ : Shape := ⟨0, ![]⟩
abbrev S16384x16x128 : Shape := ⟨3, ![16384, 16, 128]⟩

abbrev nBuf : Space → Nat
  | .hbm => 15
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384x2048, .f32⟩
  | .hbm, ⟨2, _⟩ => ⟨S16384x2048, .f32⟩
  | .hbm, ⟨3, _⟩ => ⟨S16384x2048, .bf16⟩
  | .hbm, ⟨4, _⟩ => ⟨S16384x2048, .i16⟩
  | .hbm, ⟨5, _⟩ => ⟨S16384x2048, .i32⟩
  | .hbm, ⟨6, _⟩ => ⟨S16384x2048, .f32⟩
  | .hbm, ⟨7, _⟩ => ⟨S16384x2048, .bf16⟩
  | .hbm, ⟨8, _⟩ => ⟨S16384x2048, .i16⟩
  | .hbm, ⟨9, _⟩ => ⟨S16384x2048, .i32⟩
  | .hbm, ⟨10, _⟩ => ⟨S_, .i32⟩
  | .hbm, ⟨11, _⟩ => ⟨S16384x2048, .i32⟩
  | .hbm, ⟨12, _⟩ => ⟨S16384x2048, .i32⟩
  | .hbm, ⟨13, _⟩ => ⟨S16384x2048, .i32⟩
  | .hbm, ⟨14, _⟩ => ⟨S16384x16x128, .i32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [BitOps F]
-- ==== InprojKernel.lean ====
abbrev S1x16384x2048 : Shape := ⟨3, ![1, 16384, 2048]⟩
abbrev S128x4x2048 : Shape := ⟨3, ![128, 4, 2048]⟩
abbrev S1x2048 : Shape := ⟨2, ![1, 2048]⟩
abbrev S1x2048x7680 : Shape := ⟨3, ![1, 2048, 7680]⟩
abbrev S16384x2048 : Shape := ⟨2, ![16384, 2048]⟩
abbrev S512x2048 : Shape := ⟨2, ![512, 2048]⟩
abbrev S16896x2048 : Shape := ⟨2, ![16896, 2048]⟩
abbrev S2048x7680 : Shape := ⟨2, ![2048, 7680]⟩
abbrev S2048x4096 : Shape := ⟨2, ![2048, 4096]⟩
abbrev S2048x1024 : Shape := ⟨2, ![2048, 1024]⟩
abbrev S2048x2048 : Shape := ⟨2, ![2048, 2048]⟩
abbrev S2048x512 : Shape := ⟨2, ![2048, 512]⟩
abbrev S16896x7680 : Shape := ⟨2, ![16896, 7680]⟩
abbrev S1536x2048 : Shape := ⟨2, ![1536, 2048]⟩
abbrev S1536x512 : Shape := ⟨2, ![1536, 512]⟩
abbrev S1536 : Shape := ⟨1, ![1536]⟩
abbrev S1536x1 : Shape := ⟨2, ![1536, 1]⟩

abbrev nBuf : Space → Nat
  | .hbm => 15
  | .vmem => 8
  | .smem => 0
  | _ => 0

abbrev bufTy : (tb : Table) → Fin (tcTables nBuf tb) → BufTy
  | .hbm, ⟨0, _⟩ => ⟨S1x16384x2048, .f32⟩
  | .hbm, ⟨1, _⟩ => ⟨S128x4x2048, .f32⟩
  | .hbm, ⟨2, _⟩ => ⟨S1x2048, .f32⟩
  | .hbm, ⟨3, _⟩ => ⟨S1x2048x7680, .f32⟩
  | .hbm, ⟨4, _⟩ => ⟨S16384x2048, .f32⟩
  | .hbm, ⟨5, _⟩ => ⟨S512x2048, .f32⟩
  | .hbm, ⟨6, _⟩ => ⟨S16896x2048, .f32⟩
  | .hbm, ⟨7, _⟩ => ⟨S2048x7680, .f32⟩
  | .hbm, ⟨8, _⟩ => ⟨S2048x4096, .f32⟩
  | .hbm, ⟨9, _⟩ => ⟨S2048x1024, .f32⟩
  | .hbm, ⟨10, _⟩ => ⟨S2048x2048, .f32⟩
  | .hbm, ⟨11, _⟩ => ⟨S2048x512, .f32⟩
  | .hbm, ⟨12, _⟩ => ⟨S2048x7680, .f32⟩
  | .hbm, ⟨13, _⟩ => ⟨S2048x7680, .bf16⟩
  | .hbm, ⟨14, _⟩ => ⟨S16896x7680, .bf16⟩
  | .local _ .vmem, ⟨0, _⟩ => ⟨S1536x2048, .f32⟩
  | .local _ .vmem, ⟨1, _⟩ => ⟨S1536x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1536x512, .bf16⟩
  | .local _ .vmem, ⟨6, _⟩ => ⟨S1536x512, .bf16⟩
  | .local _ .vmem, ⟨7, _⟩ => ⟨S1536x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 15], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojReferenceIdeal.lean ====
abbrev S1x16384x2048 : Shape := ⟨3, ![1, 16384, 2048]⟩
abbrev S128x4x2048 : Shape := ⟨3, ![128, 4, 2048]⟩
abbrev S1x2048 : Shape := ⟨2, ![1, 2048]⟩
abbrev S1x2048x7680 : Shape := ⟨3, ![1, 2048, 7680]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S2048x7680 : Shape := ⟨2, ![2048, 7680]⟩
abbrev S1x16384x7680 : Shape := ⟨3, ![1, 16384, 7680]⟩
abbrev S1x16384x1024 : Shape := ⟨3, ![1, 16384, 1024]⟩
abbrev S1x16384x256 : Shape := ⟨3, ![1, 16384, 256]⟩
abbrev S16384x7680 : Shape := ⟨2, ![16384, 7680]⟩
abbrev S128x4 : Shape := ⟨2, ![128, 4]⟩
abbrev S128x4x1 : Shape := ⟨3, ![128, 4, 1]⟩
abbrev S128x4x7680 : Shape := ⟨3, ![128, 4, 7680]⟩
abbrev S128x4x1024 : Shape := ⟨3, ![128, 4, 1024]⟩
abbrev S128x4x256 : Shape := ⟨3, ![128, 4, 256]⟩
abbrev S512x7680 : Shape := ⟨2, ![512, 7680]⟩
abbrev S16896x7680 : Shape := ⟨2, ![16896, 7680]⟩

abbrev nBuf : Space → Nat
  | .hbm => 62
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S128x4x2048, .f32⟩
  | .hbm, ⟨2, _⟩ => ⟨S1x2048, .f32⟩
  | .hbm, ⟨3, _⟩ => ⟨S1x2048x7680, .f32⟩
  | .hbm, ⟨4, _⟩ => ⟨S2048, .f32⟩
  | .hbm, ⟨5, _⟩ => ⟨S1x16384x2048, .f32⟩
  | .hbm, ⟨6, _⟩ => ⟨S_, .f32⟩
  | .hbm, ⟨7, _⟩ => ⟨S1x16384, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S1x16384x1, .f32⟩
  | .hbm, ⟨16, _⟩ => ⟨S1x16384x2048, .f32⟩
  | .hbm, ⟨17, _⟩ => ⟨S1x16384x2048, .f32⟩
  | .hbm, ⟨18, _⟩ => ⟨S1x1x2048, .f32⟩
  | .hbm, ⟨19, _⟩ => ⟨S1x16384x2048, .f32⟩
  | .hbm, ⟨20, _⟩ => ⟨S1x16384x2048, .f32⟩
  | .hbm, ⟨21, _⟩ => ⟨S2048x7680, .f32⟩
  | .hbm, ⟨22, _⟩ => ⟨S1x16384x7680, .f32⟩
  | .hbm, ⟨23, _⟩ => ⟨S1x16384x1024, .f32⟩
  | .hbm, ⟨24, _⟩ => ⟨S1x16384x256, .f32⟩
  | .hbm, ⟨25, _⟩ => ⟨S1x16384x256, .f32⟩
  | .hbm, ⟨26, _⟩ => ⟨S1x16384x1024, .f32⟩
  | .hbm, ⟨27, _⟩ => ⟨S1x16384x1024, .f32⟩
  | .hbm, ⟨28, _⟩ => ⟨S1x16384x2048, .f32⟩
  | .hbm, ⟨29, _⟩ => ⟨S1x16384x2048, .f32⟩
  | .hbm, ⟨30, _⟩ => ⟨S1x16384x7680, .f32⟩
  | .hbm, ⟨31, _⟩ => ⟨S16384x7680, .f32⟩
  | .hbm, ⟨32, _⟩ => ⟨S2048, .f32⟩
  | .hbm, ⟨33, _⟩ => ⟨S128x4x2048, .f32⟩
  | .hbm, ⟨34, _⟩ => ⟨S_, .f32⟩
  | .hbm, ⟨35, _⟩ => ⟨S128x4, .f32⟩
  | .hbm, ⟨36, _⟩ => ⟨S128x4x1, .f32⟩
  | .hbm, ⟨37, _⟩ => ⟨S_, .f32⟩
  | .hbm, ⟨38, _⟩ => ⟨S128x4x1, .f32⟩
  | .hbm, ⟨39, _⟩ => ⟨S128x4x1, .f32⟩
  | .hbm, ⟨40, _⟩ => ⟨S_, .f32⟩
  | .hbm, ⟨41, _⟩ => ⟨S128x4x1, .f32⟩
  | .hbm, ⟨42, _⟩ => ⟨S128x4x1, .f32⟩
  | .hbm, ⟨43, _⟩ => ⟨S128x4x1, .f32⟩
  | .hbm, ⟨44, _⟩ => ⟨S128x4x2048, .f32⟩
  | .hbm, ⟨45, _⟩ => ⟨S128x4x2048, .f32⟩
  | .hbm, ⟨46, _⟩ => ⟨S1x1x2048, .f32⟩
  | .hbm, ⟨47, _⟩ => ⟨S128x4x2048, .f32⟩
  | .hbm, ⟨48, _⟩ => ⟨S128x4x2048, .f32⟩
  | .hbm, ⟨49, _⟩ => ⟨S2048x7680, .f32⟩
  | .hbm, ⟨50, _⟩ => ⟨S128x4x7680, .f32⟩
  | .hbm, ⟨51, _⟩ => ⟨S128x4x1024, .f32⟩
  | .hbm, ⟨52, _⟩ => ⟨S128x4x256, .f32⟩
  | .hbm, ⟨53, _⟩ => ⟨S128x4x256, .f32⟩
  | .hbm, ⟨54, _⟩ => ⟨S128x4x1024, .f32⟩
  | .hbm, ⟨55, _⟩ => ⟨S128x4x1024, .f32⟩
  | .hbm, ⟨56, _⟩ => ⟨S128x4x2048, .f32⟩
  | .hbm, ⟨57, _⟩ => ⟨S128x4x2048, .f32⟩
  | .hbm, ⟨58, _⟩ => ⟨S128x4x7680, .f32⟩
  | .hbm, ⟨59, _⟩ => ⟨S512x7680, .f32⟩
  | .hbm, ⟨60, _⟩ => ⟨S16896x7680, .f32⟩
  | .hbm, ⟨61, _⟩ => ⟨S16896x7680, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== MergeKernel.lean ====
abbrev S16896x1024 : Shape := ⟨2, ![16896, 1024]⟩
abbrev S16896x7680 : Shape := ⟨2, ![16896, 7680]⟩
abbrev S1x16384x2048 : Shape := ⟨3, ![1, 16384, 2048]⟩
abbrev S128x4x2048 : Shape := ⟨3, ![128, 4, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S16384x2048 : Shape := ⟨2, ![16384, 2048]⟩
abbrev S512x2048 : Shape := ⟨2, ![512, 2048]⟩
abbrev S16896x2048 : Shape := ⟨2, ![16896, 2048]⟩
abbrev S1024x2048 : Shape := ⟨2, ![1024, 2048]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 20
  | .vmem => 18
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x7680, .bf16⟩
  | .hbm, ⟨3, _⟩ => ⟨S1x16384x2048, .f32⟩
  | .hbm, ⟨4, _⟩ => ⟨S128x4x2048, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S16384x2048, .f32⟩
  | .hbm, ⟨10, _⟩ => ⟨S512x2048, .f32⟩
  | .hbm, ⟨11, _⟩ => ⟨S16896x2048, .f32⟩
  | .hbm, ⟨12, _⟩ => ⟨S1024x2048, .f32⟩
  | .hbm, ⟨13, _⟩ => ⟨S1024x2048, .bf16⟩
  | .hbm, ⟨14, _⟩ => ⟨S1024x2048, .f32⟩
  | .hbm, ⟨15, _⟩ => ⟨S1024x2048, .bf16⟩
  | .hbm, ⟨16, _⟩ => ⟨S2048x2048, .f32⟩
  | .hbm, ⟨17, _⟩ => ⟨S2048x2048, .bf16⟩
  | .hbm, ⟨18, _⟩ => ⟨S16896x2048, .f32⟩
  | .hbm, ⟨19, _⟩ => ⟨S16896x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S16896x1024 : Shape := ⟨2, ![16896, 1024]⟩
abbrev S16896x7680 : Shape := ⟨2, ![16896, 7680]⟩
abbrev S1x16384x2048 : Shape := ⟨3, ![1, 16384, 2048]⟩
abbrev S128x4x2048 : Shape := ⟨3, ![128, 4, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S16384x2048 : Shape := ⟨2, ![16384, 2048]⟩
abbrev S512x2048 : Shape := ⟨2, ![512, 2048]⟩
abbrev S16896x2048 : Shape := ⟨2, ![16896, 2048]⟩
abbrev S_ : Shape := ⟨0, ![]⟩
abbrev S1024x2048 : Shape := ⟨2, ![1024, 2048]⟩
abbrev S2048x2048 : Shape := ⟨2, ![2048, 2048]⟩
abbrev S2048 : Shape := ⟨1, ![2048]⟩
abbrev S16896 : Shape := ⟨1, ![16896]⟩
abbrev S16896x1 : Shape := ⟨2, ![16896, 1]⟩

abbrev nBuf : Space → Nat
  | .hbm => 61
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x7680, .bf16⟩
  | .hbm, ⟨3, _⟩ => ⟨S1x16384x2048, .f32⟩
  | .hbm, ⟨4, _⟩ => ⟨S128x4x2048, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S16384x2048, .f32⟩
  | .hbm, ⟨10, _⟩ => ⟨S512x2048, .f32⟩
  | .hbm, ⟨11, _⟩ => ⟨S16896x2048, .f32⟩
  | .hbm, ⟨12, _⟩ => ⟨S16896x2048, .bf16⟩
  | .hbm, ⟨13, _⟩ => ⟨S16896x2048, .f32⟩
  | .hbm, ⟨14, _⟩ => ⟨S16896x2048, .bf16⟩
  | .hbm, ⟨15, _⟩ => ⟨S16896x2048, .f32⟩
  | .hbm, ⟨16, _⟩ => ⟨S16896x2048, .f32⟩
  | .hbm, ⟨17, _⟩ => ⟨S16896x2048, .f32⟩
  | .hbm, ⟨18, _⟩ => ⟨S_, .f32⟩
  | .hbm, ⟨19, _⟩ => ⟨S16896x2048, .f32⟩
  | .hbm, ⟨20, _⟩ => ⟨S16896x2048, .f32⟩
  | .hbm, ⟨21, _⟩ => ⟨S_, .f32⟩
  | .hbm, ⟨22, _⟩ => ⟨S16896x2048, .f32⟩
  | .hbm, ⟨23, _⟩ => ⟨S16896x2048, .f32⟩
  | .hbm, ⟨24, _⟩ => ⟨S16896x1024, .f32⟩
  | .hbm, ⟨25, _⟩ => ⟨S1024x2048, .f32⟩
  | .hbm, ⟨26, _⟩ => ⟨S16896x2048, .f32⟩
  | .hbm, ⟨27, _⟩ => ⟨S16896x2048, .f32⟩
  | .hbm, ⟨28, _⟩ => ⟨S16896x2048, .f32⟩
  | .hbm, ⟨29, _⟩ => ⟨S16896x2048, .f32⟩
  | .hbm, ⟨30, _⟩ => ⟨S_, .f32⟩
  | .hbm, ⟨31, _⟩ => ⟨S16896x2048, .f32⟩
  | .hbm, ⟨32, _⟩ => ⟨S16896x2048, .f32⟩
  | .hbm, ⟨33, _⟩ => ⟨S_, .f32⟩
  | .hbm, ⟨34, _⟩ => ⟨S16896x2048, .f32⟩
  | .hbm, ⟨35, _⟩ => ⟨S16896x2048, .f32⟩
  | .hbm, ⟨36, _⟩ => ⟨S16896x1024, .f32⟩
  | .hbm, ⟨37, _⟩ => ⟨S1024x2048, .f32⟩
  | .hbm, ⟨38, _⟩ => ⟨S16896x2048, .f32⟩
  | .hbm, ⟨39, _⟩ => ⟨S16896x2048, .f32⟩
  | .hbm, ⟨40, _⟩ => ⟨S16896x2048, .f32⟩
  | .hbm, ⟨41, _⟩ => ⟨S2048x2048, .f32⟩
  | .hbm, ⟨42, _⟩ => ⟨S16896x2048, .f32⟩
  | .hbm, ⟨43, _⟩ => ⟨S16896x2048, .f32⟩
  | .hbm, ⟨44, _⟩ => ⟨S2048, .f32⟩
  | .hbm, ⟨45, _⟩ => ⟨S16896x2048, .f32⟩
  | .hbm, ⟨46, _⟩ => ⟨S_, .f32⟩
  | .hbm, ⟨47, _⟩ => ⟨S16896, .f32⟩
  | .hbm, ⟨48, _⟩ => ⟨S16896x1, .f32⟩
  | .hbm, ⟨49, _⟩ => ⟨S_, .f32⟩
  | .hbm, ⟨50, _⟩ => ⟨S16896x1, .f32⟩
  | .hbm, ⟨51, _⟩ => ⟨S16896x1, .f32⟩
  | .hbm, ⟨52, _⟩ => ⟨S_, .f32⟩
  | .hbm, ⟨53, _⟩ => ⟨S16896x1, .f32⟩
  | .hbm, ⟨54, _⟩ => ⟨S16896x1, .f32⟩
  | .hbm, ⟨55, _⟩ => ⟨S16896x1, .f32⟩
  | .hbm, ⟨56, _⟩ => ⟨S16896x2048, .f32⟩
  | .hbm, ⟨57, _⟩ => ⟨S16896x2048, .f32⟩
  | .hbm, ⟨58, _⟩ => ⟨S1x2048, .f32⟩
  | .hbm, ⟨59, _⟩ => ⟨S16896x2048, .f32⟩
  | .hbm, ⟨60, _⟩ => ⟨S16896x2048, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== AttnKernel.lean ====
abbrev S16896x7680 : Shape := ⟨2, ![16896, 7680]⟩
abbrev S1x16 : Shape := ⟨2, ![1, 16]⟩
abbrev S32 : Shape := ⟨1, ![32]⟩
abbrev S_ : Shape := ⟨0, ![]⟩
abbrev S16384 : Shape := ⟨1, ![16384]⟩
abbrev S512 : Shape := ⟨1, ![512]⟩
abbrev S16896 : Shape := ⟨1, ![16896]⟩
abbrev S16896x1 : Shape := ⟨2, ![16896, 1]⟩
abbrev S1x32 : Shape := ⟨2, ![1, 32]⟩
abbrev S16896x32 : Shape := ⟨2, ![16896, 32]⟩
abbrev S16896x128 : Shape := ⟨2, ![16896, 128]⟩
abbrev S16 : Shape := ⟨1, ![16]⟩
abbrev S16384x1024 : Shape := ⟨2, ![16384, 1024]⟩
abbrev S128x256 : Shape := ⟨2, ![128, 256]⟩
abbrev S128x1024 : Shape := ⟨2, ![128, 1024]⟩
abbrev S128x128 : Shape := ⟨2, ![128, 128]⟩
abbrev S256x256 : Shape := ⟨2, ![256, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩

abbrev nBuf : Space → Nat
  | .hbm => 56
  | .vmem => 22
  | .smem => 1
  | _ => 0

abbrev bufTy : (tb : Table) → Fin (tcTables nBuf tb) → BufTy
  | .hbm, ⟨0, _⟩ => ⟨S16896x7680, .bf16⟩
  | .hbm, ⟨1, _⟩ => ⟨S1x16, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S16384, .i32⟩
  | .hbm, ⟨13, _⟩ => ⟨S512, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S_, .i32⟩
  | .hbm, ⟨29, _⟩ => ⟨S_, .i1⟩
  | .hbm, ⟨30, _⟩ => ⟨S512, .i1⟩
  | .hbm, ⟨31, _⟩ => ⟨S512, .i1⟩
  | .hbm, ⟨32, _⟩ => ⟨S512, .i1⟩
  | .hbm, ⟨33, _⟩ => ⟨S512, .i32⟩
  | .hbm, ⟨34, _⟩ => ⟨S512, .i32⟩
  | .hbm, ⟨35, _⟩ => ⟨S512, .i32⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S16896, .i32⟩
  | .hbm, ⟨40, _⟩ => ⟨S16896, .f32⟩
  | .hbm, ⟨41, _⟩ => ⟨S16896x1, .f32⟩
  | .hbm, ⟨42, _⟩ => ⟨S1x32, .f32⟩
  | .hbm, ⟨43, _⟩ => ⟨S16896x32, .f32⟩
  | .hbm, ⟨44, _⟩ => ⟨S16896x32, .f32⟩
  | .hbm, ⟨45, _⟩ => ⟨S16896x32, .f32⟩
  | .hbm, ⟨46, _⟩ => ⟨S16896x32, .f32⟩
  | .hbm, ⟨47, _⟩ => ⟨S16896x32, .f32⟩
  | .hbm, ⟨48, _⟩ => ⟨S16896x128, .f32⟩
  | .hbm, ⟨49, _⟩ => ⟨S16896x32, .f32⟩
  | .hbm, ⟨50, _⟩ => ⟨S16896x32, .f32⟩
  | .hbm, ⟨51, _⟩ => ⟨S16896x128, .f32⟩
  | .hbm, ⟨52, _⟩ => ⟨S16, .f32⟩
  | .hbm, ⟨53, _⟩ => ⟨S16384x1024, .bf16⟩
  | .hbm, ⟨54, _⟩ => ⟨S128x256, .f32⟩
  | .hbm, ⟨55, _⟩ => ⟨S128x256, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x1024, .bf16⟩
  | .local _ .vmem, ⟨19, _⟩ => ⟨S128x1024, .bf16⟩
  | .local _ .vmem, ⟨20, _⟩ => ⟨S128x256, .f32⟩
  | .local _ .vmem, ⟨21, _⟩ => ⟨S128x256, .f32⟩
  | .local _ .smem, ⟨0, _⟩ => ⟨S16, .f32⟩
  | _, _ => ⟨S16896x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26_0 : Ref sig .tc := ⟨.hbm, 53, rfl⟩
abbrev main_v26_1 : Ref sig .tc := ⟨.hbm, 54, rfl⟩
abbrev main_v26_2 : Ref sig .tc := ⟨.hbm, 55, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c28_i32 : BitVec 32 := 28#32
  let c0_i32_0 : BitVec 32 := 0#32
  ![v1.toNat, c28_i32.toNat]

def cc0_transform_4 (i : grid0.Coords) : Fin 2 → Nat :=
  let arg0 : BitVec 32 := BitVec.ofNat 32 (i 0).val
  let c29_i32 : BitVec 32 := 29#32
  let c0_i32 : BitVec 32 := 0#32
  ![arg0.toNat, c29_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c29_i32 : BitVec 32 := 29#32
  let c0_i32_0 : BitVec 32 := 0#32
  ![v1.toNat, c29_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== AttnKernelIdeal.lean ====
variable {F : FTy → Type} [FloatOps F] [Named F]
def κ : String → Option EReal := fun
  | "mask" => some ⊥
  | _ => none
-- ==== AttnReferenceIdeal.lean ====
abbrev S16896x7680 : Shape := ⟨2, ![16896, 7680]⟩
abbrev S1x16 : Shape := ⟨2, ![1, 16]⟩
abbrev S16384x7680 : Shape := ⟨2, ![16384, 7680]⟩
abbrev S16384x1024 : Shape := ⟨2, ![16384, 1024]⟩
abbrev S16384x16x64 : Shape := ⟨3, ![16384, 16, 64]⟩
abbrev S16384x256 : Shape := ⟨2, ![16384, 256]⟩
abbrev S16384x4x64 : Shape := ⟨3, ![16384, 4, 64]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S16384x16x32 : Shape := ⟨3, ![16384, 16, 32]⟩
abbrev S16384x4x32 : Shape := ⟨3, ![16384, 4, 32]⟩
abbrev S16384x4x4x64 : Shape := ⟨4, ![16384, 4, 4, 64]⟩
abbrev S4x16384x16384x4 : Shape := ⟨4, ![4, 16384, 16384, 4]⟩
abbrev S4x4x16384x16384 : Shape := ⟨4, ![4, 4, 16384, 16384]⟩
abbrev S1x16384 : Shape := ⟨2, ![1, 16384]⟩
abbrev S16384x16384 : Shape := ⟨2, ![16384, 16384]⟩
abbrev S16 : Shape := ⟨1, ![16]⟩
abbrev S4x4 : Shape := ⟨2, ![4, 4]⟩
abbrev S4x4x1x1 : Shape := ⟨4, ![4, 4, 1, 1]⟩
abbrev S4x4x16384x1 : Shape := ⟨4, ![4, 4, 16384, 1]⟩
abbrev S4x4x16384x16385 : Shape := ⟨4, ![4, 4, 16384, 16385]⟩
abbrev S4x4x16384 : Shape := ⟨3, ![4, 4, 16384]⟩
abbrev S4x64x4x16384 : Shape := ⟨4, ![4, 64, 4, 16384]⟩
abbrev S128x4x64 : Shape := ⟨3, ![128, 4, 64]⟩
abbrev S128x256 : Shape := ⟨2, ![128, 256]⟩

abbrev nBuf : Space → Nat
  | .hbm => 108
  | .vmem => 0
  | .smem => 0
  | _ => 0

abbrev bufTy : (tb : Table) → Fin (tcTables nBuf tb) → BufTy
  | .hbm, ⟨0, _⟩ => ⟨S16896x7680, .bf16⟩
  | .hbm, ⟨1, _⟩ => ⟨S1x16, .f32⟩
  | .hbm, ⟨2, _⟩ => ⟨S16384x7680, .bf16⟩
  | .hbm, ⟨3, _⟩ => ⟨S16384x7680, .f32⟩
  | .hbm, ⟨4, _⟩ => ⟨S16384x1024, .f32⟩
  | .hbm, ⟨5, _⟩ => ⟨S16384x16x64, .f32⟩
  | .hbm, ⟨6, _⟩ => ⟨S16384x256, .f32⟩
  | .hbm, ⟨7, _⟩ => ⟨S16384x4x64, .f32⟩
  | .hbm, ⟨8, _⟩ => ⟨S16384x256, .f32⟩
  | .hbm, ⟨9, _⟩ => ⟨S16384x4x64, .f32⟩
  | .hbm, ⟨10, _⟩ => ⟨S16384, .i32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S16384, .f32⟩
  | .hbm, ⟨22, _⟩ => ⟨S16384x1, .f32⟩
  | .hbm, ⟨23, _⟩ => ⟨S1x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x1x32, .f32⟩
  | .hbm, ⟨29, _⟩ => ⟨S16384x32, .f32⟩
  | .hbm, ⟨30, _⟩ => ⟨S16384x1x32, .f32⟩
  | .hbm, ⟨31, _⟩ => ⟨S16384x16x32, .f32⟩
  | .hbm, ⟨32, _⟩ => ⟨S16384x16x32, .f32⟩
  | .hbm, ⟨33, _⟩ => ⟨S16384x16x32, .f32⟩
  | .hbm, ⟨34, _⟩ => ⟨S16384x16x32, .f32⟩
  | .hbm, ⟨35, _⟩ => ⟨S16384x16x32, .f32⟩
  | .hbm, ⟨36, _⟩ => ⟨S16384x16x32, .f32⟩
  | .hbm, ⟨37, _⟩ => ⟨S16384x16x32, .f32⟩
  | .hbm, ⟨38, _⟩ => ⟨S16384x16x32, .f32⟩
  | .hbm, ⟨39, _⟩ => ⟨S16384x16x32, .f32⟩
  | .hbm, ⟨40, _⟩ => ⟨S16384x16x32, .f32⟩
  | .hbm, ⟨41, _⟩ => ⟨S16384x16x32, .f32⟩
  | .hbm, ⟨42, _⟩ => ⟨S16384x16x32, .f32⟩
  | .hbm, ⟨43, _⟩ => ⟨S16384x16x64, .f32⟩
  | .hbm, ⟨44, _⟩ => ⟨S16384x4x32, .f32⟩
  | .hbm, ⟨45, _⟩ => ⟨S16384x4x32, .f32⟩
  | .hbm, ⟨46, _⟩ => ⟨S16384x4x32, .f32⟩
  | .hbm, ⟨47, _⟩ => ⟨S16384x4x32, .f32⟩
  | .hbm, ⟨48, _⟩ => ⟨S16384x4x32, .f32⟩
  | .hbm, ⟨49, _⟩ => ⟨S16384x4x32, .f32⟩
  | .hbm, ⟨50, _⟩ => ⟨S16384x4x32, .f32⟩
  | .hbm, ⟨51, _⟩ => ⟨S16384x4x32, .f32⟩
  | .hbm, ⟨52, _⟩ => ⟨S16384x4x32, .f32⟩
  | .hbm, ⟨53, _⟩ => ⟨S16384x4x32, .f32⟩
  | .hbm, ⟨54, _⟩ => ⟨S16384x4x32, .f32⟩
  | .hbm, ⟨55, _⟩ => ⟨S16384x4x32, .f32⟩
  | .hbm, ⟨56, _⟩ => ⟨S16384x4x64, .f32⟩
  | .hbm, ⟨57, _⟩ => ⟨S16384x4x4x64, .f32⟩
  | .hbm, ⟨58, _⟩ => ⟨S4x16384x16384x4, .f32⟩
  | .hbm, ⟨59, _⟩ => ⟨S4x4x16384x16384, .f32⟩
  | .hbm, ⟨60, _⟩ => ⟨S_, .f32⟩
  | .hbm, ⟨61, _⟩ => ⟨S4x4x16384x16384, .f32⟩
  | .hbm, ⟨62, _⟩ => ⟨S4x4x16384x16384, .f32⟩
  | .hbm, ⟨63, _⟩ => ⟨S1x16384, .i32⟩
  | .hbm, ⟨64, _⟩ => ⟨S16384x1, .i32⟩
  | .hbm, ⟨65, _⟩ => ⟨S16384x16384, .i32⟩
  | .hbm, ⟨66, _⟩ => ⟨S16384x16384, .i32⟩
  | .hbm, ⟨67, _⟩ => ⟨S16384x16384, .i1⟩
  | .hbm, ⟨68, _⟩ => ⟨S_, .i32⟩
  | .hbm, ⟨69, _⟩ => ⟨S16384x1, .i32⟩
  | .hbm, ⟨70, _⟩ => ⟨S16384x1, .i32⟩
  | .hbm, ⟨71, _⟩ => ⟨S16384x16384, .i32⟩
  | .hbm, ⟨72, _⟩ => ⟨S16384x16384, .i32⟩
  | .hbm, ⟨73, _⟩ => ⟨S16384x16384, .i1⟩
  | .hbm, ⟨74, _⟩ => ⟨S16384x16384, .i1⟩
  | .hbm, ⟨75, _⟩ => ⟨S_, .f32⟩
  | .hbm, ⟨76, _⟩ => ⟨S_, .f32⟩
  | .hbm, ⟨77, _⟩ => ⟨S4x4x16384x16384, .i1⟩
  | .hbm, ⟨78, _⟩ => ⟨S4x4x16384x16384, .f32⟩
  | .hbm, ⟨79, _⟩ => ⟨S4x4x16384x16384, .f32⟩
  | .hbm, ⟨80, _⟩ => ⟨S16, .f32⟩
  | .hbm, ⟨81, _⟩ => ⟨S4x4, .f32⟩
  | .hbm, ⟨82, _⟩ => ⟨S4x4x1x1, .f32⟩
  | .hbm, ⟨83, _⟩ => ⟨S4x4x16384x1, .f32⟩
  | .hbm, ⟨84, _⟩ => ⟨S4x4x16384x16385, .f32⟩
  | .hbm, ⟨85, _⟩ => ⟨S_, .f32⟩
  | .hbm, ⟨86, _⟩ => ⟨S4x4x16384, .f32⟩
  | .hbm, ⟨87, _⟩ => ⟨S_, .f32⟩
  | .hbm, ⟨88, _⟩ => ⟨S4x4x16384, .f32⟩
  | .hbm, ⟨89, _⟩ => ⟨S4x4x16384, .f32⟩
  | .hbm, ⟨90, _⟩ => ⟨S4x4x16384x1, .f32⟩
  | .hbm, ⟨91, _⟩ => ⟨S4x4x16384x16385, .f32⟩
  | .hbm, ⟨92, _⟩ => ⟨S4x4x16384x16385, .f32⟩
  | .hbm, ⟨93, _⟩ => ⟨S4x4x16384x16385, .f32⟩
  | .hbm, ⟨94, _⟩ => ⟨S_, .f32⟩
  | .hbm, ⟨95, _⟩ => ⟨S4x4x16384, .f32⟩
  | .hbm, ⟨96, _⟩ => ⟨S4x4x16384x1, .f32⟩
  | .hbm, ⟨97, _⟩ => ⟨S4x4x16384x16385, .f32⟩
  | .hbm, ⟨98, _⟩ => ⟨S4x4x16384x16385, .f32⟩
  | .hbm, ⟨99, _⟩ => ⟨S4x4x16384x16384, .f32⟩
  | .hbm, ⟨100, _⟩ => ⟨S4x64x4x16384, .f32⟩
  | .hbm, ⟨101, _⟩ => ⟨S16384x4x4x64, .f32⟩
  | .hbm, ⟨102, _⟩ => ⟨S16384x1024, .f32⟩
  | .hbm, ⟨103, _⟩ => ⟨S16384x1024, .bf16⟩
  | .hbm, ⟨104, _⟩ => ⟨S128x4x64, .f32⟩
  | .hbm, ⟨105, _⟩ => ⟨S128x256, .f32⟩
  | .hbm, ⟨106, _⟩ => ⟨S128x4x64, .f32⟩
  | .hbm, ⟨107, _⟩ => ⟨S128x256, .f32⟩
  | _, _ => ⟨S16896x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_cst_2 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_c : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_cst_3 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_cst_4 : Ref sig .tc := ⟨.hbm, 85, rfl⟩
abbrev main_v74 : Ref sig .tc := ⟨.hbm, 86, rfl⟩
abbrev main_cst_5 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_6 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩

abbrev nD : Nat := 1
abbrev τ : Topo := Topo.v7x

variable {F : FTy → Type} [FloatOps F]
-- ==== GmlpKernel.lean ====
abbrev S16896x7680 : Shape := ⟨2, ![16896, 7680]⟩
abbrev S1x1024 : Shape := ⟨2, ![1, 1024]⟩
abbrev S1x4x128x128 : Shape := ⟨4, ![1, 4, 128, 128]⟩
abbrev S1x4x128 : Shape := ⟨3, ![1, 4, 128]⟩
abbrev S4x128x128 : Shape := ⟨3, ![4, 128, 128]⟩
abbrev S4x4x4 : Shape := ⟨3, ![4, 4, 4]⟩
abbrev S1x4x1x4x1x4 : Shape := ⟨6, ![1, 4, 1, 4, 1, 4]⟩
abbrev S1x4x32x4x32x4 : Shape := ⟨6, ![1, 4, 32, 4, 32, 4]⟩
abbrev S2x4x128x128 : Shape := ⟨4, ![2, 4, 128, 128]⟩
abbrev S4x128 : Shape := ⟨2, ![4, 128]⟩
abbrev S4x4 : Shape := ⟨2, ![4, 4]⟩
abbrev S1x4x1x4 : Shape := ⟨4, ![1, 4, 1, 4]⟩
abbrev S1x4x32x4 : Shape := ⟨4, ![1, 4, 32, 4]⟩
abbrev S2x4x128 : Shape := ⟨3, ![2, 4, 128]⟩
abbrev S2x4x128x1 : Shape := ⟨4, ![2, 4, 128, 1]⟩
abbrev S16896x1024 : Shape := ⟨2, ![16896, 1024]⟩
abbrev S640x1024 : Shape := ⟨2, ![640, 1024]⟩
abbrev S128x1024 : Shape := ⟨2, ![128, 1024]⟩
abbrev S1x4x128x1 : Shape := ⟨4, ![1, 4, 128, 1]⟩
abbrev S128 : Shape := ⟨1, ![128]⟩
abbrev S128x1 : Shape := ⟨2, ![128, 1]⟩
abbrev S128x128 : Shape := ⟨2, ![128, 128]⟩
abbrev S1x1x128x128 : Shape := ⟨4, ![1, 1, 128, 128]⟩
abbrev S128x256 : Shape := ⟨2, ![128, 256]⟩
abbrev S1x1x128x1 : Shape := ⟨4, ![1, 1, 128, 1]⟩

abbrev nBuf : Space → Nat
  | .hbm => 26
  | .vmem => 14
  | .smem => 0
  | _ => 0

abbrev bufTy : (tb : Table) → Fin (tcTables nBuf tb) → BufTy
  | .hbm, ⟨0, _⟩ => ⟨S16896x7680, .bf16⟩
  | .hbm, ⟨1, _⟩ => ⟨S1x1024, .f32⟩
  | .hbm, ⟨2, _⟩ => ⟨S1x1024, .f32⟩
  | .hbm, ⟨3, _⟩ => ⟨S1x4x128x128, .f32⟩
  | .hbm, ⟨4, _⟩ => ⟨S1x4x128, .f32⟩
  | .hbm, ⟨5, _⟩ => ⟨S4x128x128, .f32⟩
  | .hbm, ⟨6, _⟩ => ⟨S4x128x128, .f32⟩
  | .hbm, ⟨7, _⟩ => ⟨S4x4x4, .f32⟩
  | .hbm, ⟨8, _⟩ => ⟨S1x4x1x4x1x4, .f32⟩
  | .hbm, ⟨9, _⟩ => ⟨S1x4x32x4x32x4, .f32⟩
  | .hbm, ⟨10, _⟩ => ⟨S4x128x128, .f32⟩
  | .hbm, ⟨11, _⟩ => ⟨S1x4x128x128, .f32⟩
  | .hbm, ⟨12, _⟩ => ⟨S1x4x128x128, .f32⟩
  | .hbm, ⟨13, _⟩ => ⟨S2x4x128x128, .f32⟩
  | .hbm, ⟨14, _⟩ => ⟨S4x128, .f32⟩
  | .hbm, ⟨15, _⟩ => ⟨S4x128, .f32⟩
  | .hbm, ⟨16, _⟩ => ⟨S4x4, .f32⟩
  | .hbm, ⟨17, _⟩ => ⟨S1x4x1x4, .f32⟩
  | .hbm, ⟨18, _⟩ => ⟨S1x4x32x4, .f32⟩
  | .hbm, ⟨19, _⟩ => ⟨S4x128, .f32⟩
  | .hbm, ⟨20, _⟩ => ⟨S1x4x128, .f32⟩
  | .hbm, ⟨21, _⟩ => ⟨S1x4x128, .f32⟩
  | .hbm, ⟨22, _⟩ => ⟨S2x4x128, .f32⟩
  | .hbm, ⟨23, _⟩ => ⟨S2x4x128x1, .f32⟩
  | .hbm, ⟨24, _⟩ => ⟨S16896x1024, .bf16⟩
  | .hbm, ⟨25, _⟩ => ⟨S640x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S1x1024, .f32⟩
  | .local _ .vmem, ⟨5, _⟩ => ⟨S1x1024, .f32⟩
  | .local _ .vmem, ⟨6, _⟩ => ⟨S1x4x128x128, .f32⟩
  | .local _ .vmem, ⟨7, _⟩ => ⟨S1x4x128x128, .f32⟩
  | .local _ .vmem, ⟨8, _⟩ => ⟨S1x4x128x1, .f32⟩
  | .local _ .vmem, ⟨9, _⟩ => ⟨S1x4x128x1, .f32⟩
  | .local _ .vmem, ⟨10, _⟩ => ⟨S128x1024, .bf16⟩
  | .local _ .vmem, ⟨11, _⟩ => ⟨S128x1024, .bf16⟩
  | .local _ .vmem, ⟨12, _⟩ => ⟨S128x1024, .f32⟩
  | .local _ .vmem, ⟨13, _⟩ => ⟨S128x1024, .f32⟩
  | _, _ => ⟨S16896x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c128_i32 : BitVec 32 := 128#32
  let v0 : BitVec 32 := Scalar.divsi arg0 c128_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c128_i32 c0_i32_1
  let v7 : BitVec 32 := Scalar.extui v6
  let c0_i32_2 : BitVec 32 := 0#32
  let v8 : BitVec 1 := Scalar.cmpi .slt c128_i32 c0_i32_2
  let v9 : BitVec 32 := Scalar.extui v8
  let v10 : BitVec 32 := Scalar.subi v7 v9
  let v11 : BitVec 1 := Scalar.cmpi .ne v5 v10
  let v12 : BitVec 32 := Scalar.remsi arg0 c128_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  let c0_i32_8 : BitVec 32 := 0#32
  ![v17.toNat, c0_i32_5.toNat, c0_i32_6.toNat, c0_i32_7.toNat]

def cc0_transform_5 (i : grid0.Coords) : Fin 4 → Nat :=
  let arg0 : BitVec 32 := BitVec.ofNat 32 (i 0).val
  let c128_i32 : BitVec 32 := 128#32
  let v0 : BitVec 32 := Scalar.divsi arg0 c128_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c128_i32 c0_i32_1
  let v7 : BitVec 32 := Scalar.extui v6
  let c0_i32_2 : BitVec 32 := 0#32
  let v8 : BitVec 1 := Scalar.cmpi .slt c128_i32 c0_i32_2
  let v9 : BitVec 32 := Scalar.extui v8
  let v10 : BitVec 32 := Scalar.subi v7 v9
  let v11 : BitVec 1 := Scalar.cmpi .ne v5 v10
  let v12 : BitVec 32 := Scalar.remsi arg0 c128_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  let c0_i32_8 : BitVec 32 := 0#32
  ![v17.toNat, c0_i32_5.toNat, c0_i32_6.toNat, c0_i32_7.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c127_i32 : BitVec 32 := 127#32
  let v0 : BitVec 32 := Scalar.subi arg0 c127_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GmlpReferenceIdeal.lean ====
abbrev S16896x7680 : Shape := ⟨2, ![16896, 7680]⟩
abbrev S1x1024 : Shape := ⟨2, ![1, 1024]⟩
abbrev S1x4x128x128 : Shape := ⟨4, ![1, 4, 128, 128]⟩
abbrev S1x4x128 : Shape := ⟨3, ![1, 4, 128]⟩
abbrev S16896x1024 : Shape := ⟨2, ![16896, 1024]⟩
abbrev S_ : Shape := ⟨0, ![]⟩
abbrev S16896 : Shape := ⟨1, ![16896]⟩
abbrev S16896x1 : Shape := ⟨2, ![16896, 1]⟩
abbrev S1024 : Shape := ⟨1, ![1024]⟩
abbrev S4x128x128 : Shape := ⟨3, ![4, 128, 128]⟩
abbrev S128x128 : Shape := ⟨2, ![128, 128]⟩
abbrev S1x128x128 : Shape := ⟨3, ![1, 128, 128]⟩
abbrev S4x128 : Shape := ⟨2, ![4, 128]⟩
abbrev S128x4 : Shape := ⟨2, ![128, 4]⟩
abbrev S128x4x1 : Shape := ⟨3, ![128, 4, 1]⟩
abbrev S16384x1024 : Shape := ⟨2, ![16384, 1024]⟩
abbrev S128x128x4x256 : Shape := ⟨4, ![128, 128, 4, 256]⟩
abbrev S512x1024 : Shape := ⟨2, ![512, 1024]⟩
abbrev S128x4x4x256 : Shape := ⟨4, ![128, 4, 4, 256]⟩
abbrev S4x128x256x128 : Shape := ⟨4, ![4, 128, 256, 128]⟩
abbrev S1x128x4x1 : Shape := ⟨4, ![1, 128, 4, 1]⟩
abbrev S4x4x4 : Shape := ⟨3, ![4, 4, 4]⟩
abbrev S4x128x256x4 : Shape := ⟨4, ![4, 128, 256, 4]⟩
abbrev S4x4x1 : Shape := ⟨3, ![4, 4, 1]⟩
abbrev S1x4x4x1 : Shape := ⟨4, ![1, 4, 4, 1]⟩
abbrev S640x1024 : Shape := ⟨2, ![640, 1024]⟩

abbrev nBuf : Space → Nat
  | .hbm => 97
  | .vmem => 0
  | .smem => 0
  | _ => 0

abbrev bufTy : (tb : Table) → Fin (tcTables nBuf tb) → BufTy
  | .hbm, ⟨0, _⟩ => ⟨S16896x7680, .bf16⟩
  | .hbm, ⟨1, _⟩ => ⟨S1x1024, .f32⟩
  | .hbm, ⟨2, _⟩ => ⟨S1x1024, .f32⟩
  | .hbm, ⟨3, _⟩ => ⟨S1x4x128x128, .f32⟩
  | .hbm, ⟨4, _⟩ => ⟨S1x4x128, .f32⟩
  | .hbm, ⟨5, _⟩ => ⟨S16896x7680, .f32⟩
  | .hbm, ⟨6, _⟩ => ⟨S16896x1024, .f32⟩
  | .hbm, ⟨7, _⟩ => ⟨S_, .f32⟩
  | .hbm, ⟨8, _⟩ => ⟨S16896x1024, .f32⟩
  | .hbm, ⟨9, _⟩ => ⟨S16896x1024, .f32⟩
  | .hbm, ⟨10, _⟩ => ⟨S16896x1024, .f32⟩
  | .hbm, ⟨11, _⟩ => ⟨S_, .f32⟩
  | .hbm, ⟨12, _⟩ => ⟨S16896x1024, .f32⟩
  | .hbm, ⟨13, _⟩ => ⟨S16896x1024, .f32⟩
  | .hbm, ⟨14, _⟩ => ⟨S16896x1024, .f32⟩
  | .hbm, ⟨15, _⟩ => ⟨S16896x1024, .f32⟩
  | .hbm, ⟨16, _⟩ => ⟨S16896x1024, .f32⟩
  | .hbm, ⟨17, _⟩ => ⟨S_, .f32⟩
  | .hbm, ⟨18, _⟩ => ⟨S16896x1024, .f32⟩
  | .hbm, ⟨19, _⟩ => ⟨S16896x1024, .f32⟩
  | .hbm, ⟨20, _⟩ => ⟨S16896x1024, .f32⟩
  | .hbm, ⟨21, _⟩ => ⟨S_, .f32⟩
  | .hbm, ⟨22, _⟩ => ⟨S16896x1024, .f32⟩
  | .hbm, ⟨23, _⟩ => ⟨S16896x1024, .f32⟩
  | .hbm, ⟨24, _⟩ => ⟨S16896x1024, .f32⟩
  | .hbm, ⟨25, _⟩ => ⟨S16896x1024, .f32⟩
  | .hbm, ⟨26, _⟩ => ⟨S_, .f32⟩
  | .hbm, ⟨27, _⟩ => ⟨S16896, .f32⟩
  | .hbm, ⟨28, _⟩ => ⟨S16896x1, .f32⟩
  | .hbm, ⟨29, _⟩ => ⟨S_, .f32⟩
  | .hbm, ⟨30, _⟩ => ⟨S16896x1, .f32⟩
  | .hbm, ⟨31, _⟩ => ⟨S16896x1, .f32⟩
  | .hbm, ⟨32, _⟩ => ⟨S16896x1024, .f32⟩
  | .hbm, ⟨33, _⟩ => ⟨S16896x1024, .f32⟩
  | .hbm, ⟨34, _⟩ => ⟨S16896x1024, .f32⟩
  | .hbm, ⟨35, _⟩ => ⟨S_, .f32⟩
  | .hbm, ⟨36, _⟩ => ⟨S16896, .f32⟩
  | .hbm, ⟨37, _⟩ => ⟨S16896x1, .f32⟩
  | .hbm, ⟨38, _⟩ => ⟨S_, .f32⟩
  | .hbm, ⟨39, _⟩ => ⟨S16896x1, .f32⟩
  | .hbm, ⟨40, _⟩ => ⟨S16896x1, .f32⟩
  | .hbm, ⟨41, _⟩ => ⟨S16896x1024, .f32⟩
  | .hbm, ⟨42, _⟩ => ⟨S16896x1024, .f32⟩
  | .hbm, ⟨43, _⟩ => ⟨S_, .f32⟩
  | .hbm, ⟨44, _⟩ => ⟨S16896x1, .f32⟩
  | .hbm, ⟨45, _⟩ => ⟨S16896x1, .f32⟩
  | .hbm, ⟨46, _⟩ => ⟨S16896x1, .f32⟩
  | .hbm, ⟨47, _⟩ => ⟨S16896x1024, .f32⟩
  | .hbm, ⟨48, _⟩ => ⟨S16896x1024, .f32⟩
  | .hbm, ⟨49, _⟩ => ⟨S1024, .f32⟩
  | .hbm, ⟨50, _⟩ => ⟨S1x1024, .f32⟩
  | .hbm, ⟨51, _⟩ => ⟨S16896x1024, .f32⟩
  | .hbm, ⟨52, _⟩ => ⟨S16896x1024, .f32⟩
  | .hbm, ⟨53, _⟩ => ⟨S1024, .f32⟩
  | .hbm, ⟨54, _⟩ => ⟨S1x1024, .f32⟩
  | .hbm, ⟨55, _⟩ => ⟨S16896x1024, .f32⟩
  | .hbm, ⟨56, _⟩ => ⟨S16896x1024, .f32⟩
  | .hbm, ⟨57, _⟩ => ⟨S4x128x128, .f32⟩
  | .hbm, ⟨58, _⟩ => ⟨S_, .f32⟩
  | .hbm, ⟨59, _⟩ => ⟨S128x128, .f32⟩
  | .hbm, ⟨60, _⟩ => ⟨S128x128, .i32⟩
  | .hbm, ⟨61, _⟩ => ⟨S_, .i32⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S128x128, .i1⟩
  | .hbm, ⟨66, _⟩ => ⟨S_, .f32⟩
  | .hbm, ⟨67, _⟩ => ⟨S128x128, .f32⟩
  | .hbm, ⟨68, _⟩ => ⟨S128x128, .f32⟩
  | .hbm, ⟨69, _⟩ => ⟨S1x128x128, .f32⟩
  | .hbm, ⟨70, _⟩ => ⟨S4x128x128, .f32⟩
  | .hbm, ⟨71, _⟩ => ⟨S4x128x128, .f32⟩
  | .hbm, ⟨72, _⟩ => ⟨S4x128, .f32⟩
  | .hbm, ⟨73, _⟩ => ⟨S128x4, .f32⟩
  | .hbm, ⟨74, _⟩ => ⟨S128x4x1, .f32⟩
  | .hbm, ⟨75, _⟩ => ⟨S16384x1024, .f32⟩
  | .hbm, ⟨76, _⟩ => ⟨S128x128x4x256, .f32⟩
  | .hbm, ⟨77, _⟩ => ⟨S512x1024, .f32⟩
  | .hbm, ⟨78, _⟩ => ⟨S128x4x4x256, .f32⟩
  | .hbm, ⟨79, _⟩ => ⟨S4x128x256x128, .f32⟩
  | .hbm, ⟨80, _⟩ => ⟨S128x128x4x256, .f32⟩
  | .hbm, ⟨81, _⟩ => ⟨S1x128x4x1, .f32⟩
  | .hbm, ⟨82, _⟩ => ⟨S128x128x4x256, .f32⟩
  | .hbm, ⟨83, _⟩ => ⟨S128x128x4x256, .f32⟩
  | .hbm, ⟨84, _⟩ => ⟨S4x4x4, .f32⟩
  | .hbm, ⟨85, _⟩ => ⟨S4x128x256x4, .f32⟩
  | .hbm, ⟨86, _⟩ => ⟨S128x4x4x256, .f32⟩
  | .hbm, ⟨87, _⟩ => ⟨S4x4x1, .f32⟩
  | .hbm, ⟨88, _⟩ => ⟨S1x4x4x1, .f32⟩
  | .hbm, ⟨89, _⟩ => ⟨S128x4x4x256, .f32⟩
  | .hbm, ⟨90, _⟩ => ⟨S128x4x4x256, .f32⟩
  | .hbm, ⟨91, _⟩ => ⟨S16384x1024, .f32⟩
  | .hbm, ⟨92, _⟩ => ⟨S512x1024, .f32⟩
  | .hbm, ⟨93, _⟩ => ⟨S16896x1024, .f32⟩
  | .hbm, ⟨94, _⟩ => ⟨S16896x1024, .f32⟩
  | .hbm, ⟨95, _⟩ => ⟨S16896x1024, .bf16⟩
  | .hbm, ⟨96, _⟩ => ⟨S640x1024, .f32⟩
  | _, _ => ⟨S16896x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_cst : Ref sig .tc := ⟨.hbm, 66, rfl⟩
abbrev main_call0_v5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Proof.Inproj.lean ====
/-
  The input projection: row `r` of the stacked tokens is divided by its root mean square, scaled by the gain, and
  multiplied into the reordered columns of the weight. Both programs are shown to leave that array.
-/
module

public import proofs.«01_k».proof.Defs
public import proofs.«01_k».proof.Proof.Gen.InprojKernelIdeal.Value
public import proofs.«01_k».proof.Proof.Gen.InprojReferenceIdeal.Run
public import proofs.«01_k».proof.Proof.Gen.InprojReferenceIdeal.Read
public import Idealize.ShloMosaic.Lib.Pipeline.Value
public import Idealize.ShloMosaic.Lib.Pipeline.ValueKit.Tiles
public import Idealize.ShloMosaic.Lib.Pointwise
public import Idealize.ShloMosaic.Lib.ValueIdx
public import Idealize.ShloMosaic.PureOps.Ideal.Laws
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Inproj

/-- Entry `k` of a row divided by the row's root mean square and scaled by the gain. -/
def scaled (row g : Fin 2048 → EReal) (k : Fin 2048) : EReal :=
  row k * Ideal.rsqrt (Ideal.div (∑ l : Fin 2048, row l * row l) (Ideal.ofBits .f32 0x45000000#32)
    + Ideal.ofBits .f32 0x358637BD#32) * g k

/-- Where column `j` of the projection comes from in the weight: the gates, the queries, the keys and values, the routes. -/
def col (j : Fin 7680) : Fin 7680 :=
  if h : j.val < 4096 then ⟨j.val + 3584, by omega⟩
  else if h : j.val < 5120 then ⟨j.val - 4096, by omega⟩
  else if h : j.val < 7168 then ⟨j.val - 5120 + 1536, by omega⟩
  else ⟨j.val - 7168 + 1024, by omega⟩

/-- Row `r` of the stacked tokens: the prompt's rows, then the samples' rows, four to a sequence. -/
def tok (a : (⟨3, ![1, 16384, 2048]⟩ : Shape).Idx → EReal) (b : (⟨3, ![128, 4, 2048]⟩ : Shape).Idx → EReal)
    (r : Fin 16896) (k : Fin 2048) : EReal :=
  if h : r.val < 16384 then a (ix3 0 ⟨r.val, h⟩ k)
  else b (ix3 ⟨(r.val - 16384) / 4, by omega⟩ ⟨(r.val - 16384) % 4, by omega⟩ k)

/-- The projection as a function of the tokens, the gain and the weight. -/
def proj (a : (⟨3, ![1, 16384, 2048]⟩ : Shape).Idx → EReal) (b : (⟨3, ![128, 4, 2048]⟩ : Shape).Idx → EReal)
    (g : (⟨2, ![1, 2048]⟩ : Shape).Idx → EReal) (w : (⟨3, ![1, 2048, 7680]⟩ : Shape).Idx → EReal)
    (i : (⟨2, ![16896, 7680]⟩ : Shape).Idx) : EReal :=
  ∑ k : Fin 2048, scaled (tok a b (i 0)) (fun l => g (ix2 0 l)) k * w (ix3 0 k (col (i 1)))

/-- The two flattened token arrays joined are the stacked rows. -/
theorem stack_apply (a : (⟨3, ![1, 16384, 2048]⟩ : Shape).Idx → EReal) (b : (⟨3, ![128, 4, 2048]⟩ : Shape).Idx → EReal)
    (ha : (⟨3, ![1, 16384, 2048]⟩ : Shape).ShapeCasts ⟨2, ![16384, 2048]⟩)
    (hb : (⟨3, ![128, 4, 2048]⟩ : Shape).ShapeCasts ⟨2, ![512, 2048]⟩)
    (hc : Shape.Concatenates [⟨2, ![16384, 2048]⟩, ⟨2, ![512, 2048]⟩] ⟨2, ![16896, 2048]⟩ 0)
    (r : Fin 16896) (k : Fin 2048) :
    concatenate ⟨2, ![16896, 2048]⟩ 0
      [⟨⟨2, ![16384, 2048]⟩, shapeCast ⟨2, ![16384, 2048]⟩ a ha⟩, ⟨⟨2, ![512, 2048]⟩, shapeCast ⟨2, ![512, 2048]⟩ b hb⟩]
      hc (ix2 r k) = tok a b r k := by
  unfold tok
  split
  · rename_i h
    rw [concatenate_pair_apply_left (s₁ := ⟨2, ![16384, 2048]⟩) (s₂ := ⟨2, ![512, 2048]⟩) _ _ _ _ (ix2 r k) rfl (ix2 ⟨r.val, h⟩ k)
      (fun b => match b with | ⟨0, _⟩ => rfl | ⟨1, _⟩ => rfl)]
    refine shapeCast_apply _ ha _ _ ?_
    rw [Shape.rowMajor_val_three, Shape.rowMajor_val_two]
    show (0 * 16384 + r.val) * 2048 + k.val = r.val * 2048 + k.val
    omega
  · rename_i h
    have hr := r.isLt
    rw [concatenate_pair_apply_right (s₁ := ⟨2, ![16384, 2048]⟩) (s₂ := ⟨2, ![512, 2048]⟩) _ _ _ _ (ix2 r k) rfl rfl
      (ix2 ⟨r.val - 16384, by omega⟩ k)
      (fun b => match b with | ⟨0, _⟩ => fun hb => absurd rfl hb | ⟨1, _⟩ => fun _ => rfl)
      (by show r.val - 16384 + 16384 = r.val; omega)]
    refine shapeCast_apply _ hb _ _ ?_
    rw [Shape.rowMajor_val_three, Shape.rowMajor_val_two]
    show ((r.val - 16384) / 4 * 4 + (r.val - 16384) % 4) * 2048 + k.val = (r.val - 16384) * 2048 + k.val
    omega

end Cert.Inproj

namespace Cert.InprojKernelIdeal.Proj

open Cert.InprojKernelIdeal Cert.InprojKernelIdeal.Gen Cert.Inproj

variable (m : (ℓ : Loc nD τ sig) → Buf (Elt Ideal) ℓ) (ρ : Dev nD → PrngReg)

theorem pay1_apply (x : Vec Ideal S1536x2048 .f32) (g : Vec Ideal S1x2048 .f32) (r : Fin 1536) (k : Fin 2048) :
    k0_pay1 (F := Ideal) x g (ix2 r k) = scaled (fun l => x (ix2 r l)) (fun l => g (ix2 0 l)) k := by
  pointwise [k0_pay1, scaled]

theorem pay2_apply (x : Vec Ideal S1536x2048 .bf16) (w : Vec Ideal S2048x512 .bf16) (r : Fin 1536) (j : Fin 512) :
    k0_pay2 (F := Ideal) x w (ix2 r j) = ∑ k : Fin 2048, x (ix2 r k) * w (ix2 k j) := by
  pointwise [k0_pay2]

/-- After each point the scratch holds the scaled rows of that point's block of tokens. -/
theorem scratchA (c : Dev nD) (t : Fin cfg0.N) (h0 : t.val % 15 = 0) :
    (outsAt0 m c t.val t.isLt).2 = k0_pay1 (F := Ideal) (iblk m c 0 t) (iblk m c 1 t) := by
  rw [outsAt0_A m c t h0]
  frame_out

theorem scratchB (c : Dev nD) (t : Fin cfg0.N) (h0 : ¬t.val % 15 = 0) :
    (outsAt0 m c t.val t.isLt).2 = (outsAt0 m c (t.val - 1) (Nat.lt_of_le_of_lt (Nat.sub_le _ _) t.isLt)).2 := by
  rw [outsAt0_B m c t h0]
  rfl

theorem outA (c : Dev nD) (t : Fin cfg0.N) (h0 : t.val % 15 = 0) :
    (outsAt0 m c t.val t.isLt).1 = k0_pay2 (F := Ideal) (outsAt0 m c t.val t.isLt).2 (iblk m c 2 t) := by
  rw [scratchA m c t h0, outsAt0_A m c t h0]
  frame_out

theorem outB (c : Dev nD) (t : Fin cfg0.N) (h0 : ¬t.val % 15 = 0) :
    (outsAt0 m c t.val t.isLt).1 = k0_pay2 (F := Ideal) (outsAt0 m c t.val t.isLt).2 (iblk m c 2 t) := by
  rw [scratchB m c t h0, outsAt0_B m c t h0]
  frame_out
  exact congrArg (k0_pay2 (F := Ideal) · _) ((Memref.isWhole_whole _).read_unread _)

theorem win0_facts : ∀ t : Fin cfg0.N, win0_0.index t (0 : Fin 2) = t.val / 15 ∧ win0_0.index t (1 : Fin 2) = 0 := by
  decide +kernel
theorem win1_facts : ∀ t : Fin cfg0.N, win0_1.index t (0 : Fin 2) = 0 ∧ win0_1.index t (1 : Fin 2) = 0 := by
  decide +kernel
theorem win2_facts : ∀ t : Fin cfg0.N, win0_2.index t (0 : Fin 2) = 0 ∧ win0_2.index t (1 : Fin 2) = t.val % 15 := by
  decide +kernel
theorem win3_facts : ∀ t : Fin cfg0.N, win0_3.index t (0 : Fin 2) = t.val / 15 ∧ win0_3.index t (1 : Fin 2) = t.val % 15 := by
  decide +kernel

theorem tokens_apply (c : Dev nD) (t : Fin cfg0.N) (r : Fin 1536) (k : Fin 2048) (i : S16896x2048.Idx)
    (h0 : (i 0).val = t.val / 15 * 1536 + r.val) (h1 : (i 1).val = k.val) :
    iblk m c 0 t (ix2 r k) = V m c main_v2 i := by
  show V m c main_v2 ((win0_0.rect t).idx (ix2 r k)) = V m c main_v2 i
  refine congrArg _ (funext fun a => Fin.ext ?_)
  obtain ⟨e0, e1⟩ := win0_facts t
  match a with
  | ⟨0, _⟩ => show win0_0.index t (0 : Fin 2) * 1536 + 1 * r.val = (i 0).val; omega
  | ⟨1, _⟩ => show win0_0.index t (1 : Fin 2) * 2048 + 1 * k.val = (i 1).val; omega

theorem gain_apply (c : Dev nD) (t : Fin cfg0.N) (k : Fin 2048) :
    iblk m c 1 t (ix2 0 k) = V m c main_arg2 (ix2 0 k) := by
  show V m c main_arg2 ((win0_1.rect t).idx (ix2 0 k)) = V m c main_arg2 (ix2 0 k)
  refine congrArg _ (funext fun a => Fin.ext ?_)
  obtain ⟨e0, e1⟩ := win1_facts t
  match a with
  | ⟨0, _⟩ => show win0_1.index t (0 : Fin 2) * 1 + 1 * 0 = 0; omega
  | ⟨1, _⟩ => show win0_1.index t (1 : Fin 2) * 2048 + 1 * k.val = k.val; omega

theorem weight_apply (c : Dev nD) (t : Fin cfg0.N) (k : Fin 2048) (j : Fin 512) (i : S2048x7680.Idx)
    (h0 : (i 0).val = k.val) (h1 : (i 1).val = t.val % 15 * 512 + j.val) :
    iblk m c 2 t (ix2 k j) = V m c main_v9 i := by
  show V m c main_v9 ((win0_2.rect t).idx (ix2 k j)) = V m c main_v9 i
  refine congrArg _ (funext fun a => Fin.ext ?_)
  obtain ⟨e0, e1⟩ := win2_facts t
  match a with
  | ⟨0, _⟩ => show win0_2.index t (0 : Fin 2) * 2048 + 1 * k.val = (i 0).val; omega
  | ⟨1, _⟩ => show win0_2.index t (1 : Fin 2) * 512 + 1 * j.val = (i 1).val; omega

/-- Points of one row of tiles read the same block of tokens. -/
theorem tokens_same (c : Dev nD) (t u : Fin cfg0.N) (h : t.val / 15 = u.val / 15) : iblk m c 0 t = iblk m c 0 u := by
  show (fun y => V m c main_v2 ((win0_0.rect t).idx y)) = fun y => V m c main_v2 ((win0_0.rect u).idx y)
  funext y
  refine congrArg _ (funext fun a => Fin.ext ?_)
  have e0 := (win0_facts t).1
  have e1 := (win0_facts t).2
  have f0 := (win0_facts u).1
  have f1 := (win0_facts u).2
  match a with
  | ⟨0, _⟩ => show win0_0.index t (0 : Fin 2) * 1536 + 1 * (y 0).val = win0_0.index u (0 : Fin 2) * 1536 + 1 * (y 0).val; omega
  | ⟨1, _⟩ => show win0_0.index t (1 : Fin 2) * 2048 + 1 * (y 1).val = win0_0.index u (1 : Fin 2) * 2048 + 1 * (y 1).val; omega

theorem gain_same (c : Dev nD) (t u : Fin cfg0.N) : iblk m c 1 t = iblk m c 1 u := by
  show (fun y => V m c main_arg2 ((win0_1.rect t).idx y)) = fun y => V m c main_arg2 ((win0_1.rect u).idx y)
  funext y
  refine congrArg _ (funext fun a => Fin.ext ?_)
  have e0 := (win1_facts t).1
  have e1 := (win1_facts t).2
  have f0 := (win1_facts u).1
  have f1 := (win1_facts u).2
  match a with
  | ⟨0, _⟩ => show win0_1.index t (0 : Fin 2) * 1 + 1 * (y 0).val = win0_1.index u (0 : Fin 2) * 1 + 1 * (y 0).val; omega
  | ⟨1, _⟩ => show win0_1.index t (1 : Fin 2) * 2048 + 1 * (y 1).val = win0_1.index u (1 : Fin 2) * 2048 + 1 * (y 1).val; omega

theorem scratch (c : Dev nD) : ∀ (n : ℕ) (hn : n < cfg0.N),
    (outsAt0 m c n hn).2 = k0_pay1 (F := Ideal) (iblk m c 0 ⟨n, hn⟩) (iblk m c 1 ⟨n, hn⟩)
  | 0, hn => scratchA m c ⟨0, hn⟩ (Nat.zero_mod _)
  | n + 1, hn => by
    by_cases h0 : (n + 1) % 15 = 0
    · exact scratchA m c ⟨n + 1, hn⟩ h0
    · refine (scratchB m c ⟨n + 1, hn⟩ h0).trans ((scratch c n (Nat.lt_of_succ_lt hn)).trans ?_)
      rw [tokens_same m c ⟨n, Nat.lt_of_succ_lt hn⟩ ⟨n + 1, hn⟩ (by show n / 15 = (n + 1) / 15; omega),
        gain_same m c ⟨n, Nat.lt_of_succ_lt hn⟩ ⟨n + 1, hn⟩]

theorem out (c : Dev nD) (t : Fin cfg0.N) :
    (outsAt0 m c t.val t.isLt).1
      = k0_pay2 (F := Ideal) (k0_pay1 (F := Ideal) (iblk m c 0 t) (iblk m c 1 t)) (iblk m c 2 t) := by
  by_cases h0 : t.val % 15 = 0
  · rw [outA m c t h0, scratch m c t.val t.isLt]
  · rw [outB m c t h0, scratch m c t.val t.isLt]

/-- The stacked tokens the first window reads. -/
theorem stacked (c : Dev nD) (r : Fin 16896) (k : Fin 2048) :
    V m c main_v2 (ix2 r k)
      = tok (m ((c.tc : Thread nD τ).loc main_arg0)) (m ((c.tc : Thread nD τ).loc main_arg1)) r k := by
  have e : V m c main_v2 = concatenate S16896x2048 0
      [⟨S16384x2048, shapeCast S16384x2048 (m ((c.tc : Thread nD τ).loc main_arg0)) shapeCasts_S1x16384x2048_S16384x2048⟩,
       ⟨S512x2048, shapeCast S512x2048 (m ((c.tc : Thread nD τ).loc main_arg1)) shapeCasts_S128x4x2048_S512x2048⟩]
      concatenates_S16384x2048_S512x2048_S16896x2048_d0 := by
    show StableHlo.after hostOps0 _ (Proc.devRef .tc main_v2) = _
    after_results
    rfl
  rw [e]
  exact stack_apply _ _ _ _ _ r k

/-- Joining the weight's four column ranges moves column `col j` to column `j`. -/
theorem joined (x : S2048x7680.Idx → EReal) (k : Fin 2048) (j : Fin 7680) :
    concatenate S2048x7680 1
      [⟨S2048x4096, extractStridedSlice S2048x4096 ![0, 3584] x slices_S2048x7680_S2048x4096_0_3584⟩,
       ⟨S2048x1024, extractStridedSlice S2048x1024 ![0, 0] x slices_S2048x7680_S2048x1024_0_0⟩,
       ⟨S2048x2048, extractStridedSlice S2048x2048 ![0, 1536] x slices_S2048x7680_S2048x2048_0_1536⟩,
       ⟨S2048x512, extractStridedSlice S2048x512 ![0, 1024] x slices_S2048x7680_S2048x512_0_1024⟩]
      concatenates_S2048x4096_S2048x1024_S2048x2048_S2048x512_S2048x7680_d1 (ix2 k j) = x (ix2 k (col j)) := by
  have hj := j.isLt
  unfold col
  split
  · rename_i h
    rw [concatenate_apply_piece _ _ _ (ix2 k j) 0 (by show 0 < 4; decide) S2048x4096 _ rfl rfl 0 rfl (ix2 k ⟨j.val, h⟩)
      (fun b => match b with | ⟨0, _⟩ => fun _ => rfl | ⟨1, _⟩ => fun hb => absurd rfl hb) (Nat.zero_add _)]
    refine extractStridedSlice_apply _ _ _ _ _ (fun b => match b with | ⟨0, _⟩ => ?_ | ⟨1, _⟩ => ?_)
    · show k.val = 0 + k.val; omega
    · show j.val + 3584 = 3584 + j.val; omega
  split
  · rename_i h' h
    rw [concatenate_apply_piece _ _ _ (ix2 k j) 1 (by show 1 < 4; decide) S2048x1024 _ rfl rfl 4096 rfl (ix2 k ⟨j.val - 4096, by omega⟩)
      (fun b => match b with | ⟨0, _⟩ => fun _ => rfl | ⟨1, _⟩ => fun hb => absurd rfl hb)
      (by show 4096 + (j.val - 4096) = j.val; omega)]
    refine extractStridedSlice_apply _ _ _ _ _ (fun b => match b with | ⟨0, _⟩ => ?_ | ⟨1, _⟩ => ?_)
    · show k.val = 0 + k.val; omega
    · show j.val - 4096 = 0 + (j.val - 4096); omega
  split
  · rename_i h' h'' h
    rw [concatenate_apply_piece _ _ _ (ix2 k j) 2 (by show 2 < 4; decide) S2048x2048 _ rfl rfl 5120 rfl (ix2 k ⟨j.val - 5120, by omega⟩)
      (fun b => match b with | ⟨0, _⟩ => fun _ => rfl | ⟨1, _⟩ => fun hb => absurd rfl hb)
      (by show 5120 + (j.val - 5120) = j.val; omega)]
    refine extractStridedSlice_apply _ _ _ _ _ (fun b => match b with | ⟨0, _⟩ => ?_ | ⟨1, _⟩ => ?_)
    · show k.val = 0 + k.val; omega
    · show j.val - 5120 + 1536 = 1536 + (j.val - 5120); omega
  · rename_i h' h'' h
    rw [concatenate_apply_piece _ _ _ (ix2 k j) 3 (by show 3 < 4; decide) S2048x512 _ rfl rfl 7168 rfl (ix2 k ⟨j.val - 7168, by omega⟩)
      (fun b => match b with | ⟨0, _⟩ => fun _ => rfl | ⟨1, _⟩ => fun hb => absurd rfl hb)
      (by show 7168 + (j.val - 7168) = j.val; omega)]
    refine extractStridedSlice_apply _ _ _ _ _ (fun b => match b with | ⟨0, _⟩ => ?_ | ⟨1, _⟩ => ?_)
    · show k.val = 0 + k.val; omega
    · show j.val - 7168 + 1024 = 1024 + (j.val - 7168); omega

/-- The reordered weight the third window reads. -/
theorem reordered (c : Dev nD) (k : Fin 2048) (j : Fin 7680) :
    V m c main_v9 (ix2 k j)
      = (m ((c.tc : Thread nD τ).loc main_arg3) : S1x2048x7680.Idx → EReal) (ix3 0 k (col j)) := by
  have e : V m c main_v9 = (concatenate S2048x7680 1
      [⟨S2048x4096, extractStridedSlice S2048x4096 ![0, 3584] (shapeCast S2048x7680 (m ((c.tc : Thread nD τ).loc main_arg3)) shapeCasts_S1x2048x7680_S2048x7680) slices_S2048x7680_S2048x4096_0_3584⟩,
       ⟨S2048x1024, extractStridedSlice S2048x1024 ![0, 0] (shapeCast S2048x7680 (m ((c.tc : Thread nD τ).loc main_arg3)) shapeCasts_S1x2048x7680_S2048x7680) slices_S2048x7680_S2048x1024_0_0⟩,
       ⟨S2048x2048, extractStridedSlice S2048x2048 ![0, 1536] (shapeCast S2048x7680 (m ((c.tc : Thread nD τ).loc main_arg3)) shapeCasts_S1x2048x7680_S2048x7680) slices_S2048x7680_S2048x2048_0_1536⟩,
       ⟨S2048x512, extractStridedSlice S2048x512 ![0, 1024] (shapeCast S2048x7680 (m ((c.tc : Thread nD τ).loc main_arg3)) shapeCasts_S1x2048x7680_S2048x7680) slices_S2048x7680_S2048x512_0_1024⟩]
      concatenates_S2048x4096_S2048x1024_S2048x2048_S2048x512_S2048x7680_d1 : S2048x7680.Idx → EReal) := by
    show StableHlo.after hostOps0 _ (Proc.devRef .tc main_v9) = _
    after_results
    rfl
  rw [e, joined]
  refine shapeCast_apply _ shapeCasts_S1x2048x7680_S2048x7680 _ _ ?_
  rw [Shape.rowMajor_val_three, Shape.rowMajor_val_two]
  show (0 * 2048 + k.val) * 7680 + (col j).val = k.val * 7680 + (col j).val
  omega

/-- One entry of a point's block, at its place in the projection. -/
theorem block_apply (c : Dev nD) (t : Fin cfg0.N) (p : Fin 1536) (q : Fin 512) (r : Fin 16896) (j : Fin 7680)
    (hr : r.val = t.val / 15 * 1536 + p.val) (hj : j.val = t.val % 15 * 512 + q.val) :
    k0_pay2 (F := Ideal) (k0_pay1 (F := Ideal) (iblk m c 0 t) (iblk m c 1 t)) (iblk m c 2 t) (ix2 p q)
      = proj (m ((c.tc : Thread nD τ).loc main_arg0)) (m ((c.tc : Thread nD τ).loc main_arg1))
        (m ((c.tc : Thread nD τ).loc main_arg2)) (m ((c.tc : Thread nD τ).loc main_arg3)) (ix2 r j) := by
  refine (pay2_apply _ _ p q).trans ?_
  unfold proj
  refine Finset.sum_congr rfl fun k _ => ?_
  refine congrArg₂ (· * ·) ((pay1_apply _ _ p k).trans ?_) ?_
  · refine congrArg₂ (fun a b => scaled a b k) (funext fun l => ?_) (funext fun l => ?_)
    · exact (tokens_apply m c t p l (ix2 r l) hr rfl).trans (stacked m c r l)
    · rw [gain_apply, V_main_arg2]
  · exact (weight_apply m c t k q (ix2 k j) rfl hj).trans (reordered m c k j)

/-- What each point writes back is its block of the projection. -/
theorem flushed_eq (c : Dev nD) (t : Fin cfg0.N) :
    (dats m 0 c).flushed 3 t = ((cfg0.win 3).blk t).view.read (Elt Ideal)
      (proj (m ((c.tc : Thread nD τ).loc main_arg0)) (m ((c.tc : Thread nD τ).loc main_arg1))
        (m ((c.tc : Thread nD τ).loc main_arg2)) (m ((c.tc : Thread nD τ).loc main_arg3))) := by
  rw [Value.flushed3, out]
  funext y
  obtain ⟨e0, e1⟩ := win3_facts t
  show k0_pay2 (F := Ideal) _ _ y = proj _ _ _ _ ((win0_3.rect t).idx y)
  have hr : ((win0_3.rect t).idx y 0).val = win0_3.index t (0 : Fin 2) * 1536 + 1 * (y 0).val := rfl
  have hj : ((win0_3.rect t).idx y 1).val = win0_3.index t (1 : Fin 2) * 512 + 1 * (y 1).val := rfl
  generalize (win0_3.rect t).idx y = i at hr hj
  rw [e0] at hr
  rw [e1] at hj
  refine (congrArg (k0_pay2 (F := Ideal) _ _) (eq_ix2 (n0 := 1536) (n1 := 512) y)).trans
    ((block_apply m c t (y 0) (y 1) (i 0) (i 1) (by omega) (by omega)).trans
      (congrArg (proj _ _ _ _) (eq_ix2 (n0 := 16896) (n1 := 7680) i).symm))

theorem cover (i : S16896x7680.Idx) :
    ∃ t : Fin cfg0.N, (cfg0.win 3).flush t = true ∧ i ∈ ((cfg0.win 3).blk t).view.set :=
  (Value.covered_iff3 i).mpr ⟨Nat.zero_le _, (i 0).isLt, Nat.zero_le _, (i 1).isLt⟩

/-- So the kernel's run ends with the projection, its arguments as they were. -/
theorem run : θ_run defs (onTc (τ := τ) (main (F := Ideal))) ⟨m, fun _ => 0, ρ⟩ fun r => ∀ c : Dev nD,
      r.2.mem ((c.tc : Thread nD τ).loc main_v10)
        = proj (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans
    ((dats m 0 c).arrAt_eq_of_cover 3 _ (fun t _ => flushed_eq m c t) cover), (h c).2⟩)
    (Value.run_blocks m ρ)

end Cert.InprojKernelIdeal.Proj
namespace Cert.InprojReferenceIdeal.Proj

open Cert.InprojReferenceIdeal Cert.InprojReferenceIdeal.Gen Cert.InprojReferenceIdeal.Read Cert.Inproj

/-- One of the joined pieces, a range of columns of `x`, read at its place. -/
theorem piece {p q n : Nat} (x : (⟨3, ![p, q, 7680]⟩ : Shape).Idx → EReal) (off pre k : Nat)
    (hs : (⟨3, ![p, q, 7680]⟩ : Shape).Slices ![0, 0, off] ⟨3, ![p, q, n]⟩)
    (xs : List ((s : Shape) × (s.Idx → EReal))) (h : Shape.Concatenates (xs.map (·.1)) ⟨3, ![p, q, 7680]⟩ 2)
    (hk : k < xs.length) (hxk : xs[k] = ⟨⟨3, ![p, q, n]⟩, extractStridedSlice ⟨3, ![p, q, n]⟩ ![0, 0, off] x hs⟩)
    (hpre : (((xs.take k).map (·.1)).map fun s => if h : s.rank = 3 then s.size ((2 : Fin 3).cast h.symm) else 0).sum = pre)
    (a : Fin p) (b : Fin q) (j : Fin 7680) (h0 : pre ≤ j.val) (h1 : j.val < pre + n)
    (hc : (col j).val = off + (j.val - pre)) :
    concatenate ⟨3, ![p, q, 7680]⟩ 2 xs h (ix3 a b j) = x (ix3 a b (col j)) := by
  rw [concatenate_apply_piece _ _ _ (ix3 a b j) k hk ⟨3, ![p, q, n]⟩ _ hxk rfl pre hpre (ix3 a b ⟨j.val - pre, by omega⟩)
    (fun b => match b with | ⟨0, _⟩ => fun _ => rfl | ⟨1, _⟩ => fun _ => rfl | ⟨2, _⟩ => fun hb => absurd rfl hb)
    (by show pre + (j.val - pre) = j.val; omega)]
  refine extractStridedSlice_apply _ _ _ _ _ (fun b => match b with | ⟨0, _⟩ => ?_ | ⟨1, _⟩ => ?_ | ⟨2, _⟩ => ?_)
  · exact (Nat.zero_add _).symm
  · exact (Nat.zero_add _).symm
  · exact hc

theorem col_val (j : Fin 7680) : (col j).val = if j.val < 4096 then j.val + 3584 else if j.val < 5120 then j.val - 4096
    else if j.val < 7168 then j.val - 5120 + 1536 else j.val - 7168 + 1024 := by
  unfold col
  split
  · rfl
  split
  · rfl
  split <;> rfl

/-- The seven ranges of columns, in the order the reference joins them. -/
def ranges {p q : Nat} (x : (⟨3, ![p, q, 7680]⟩ : Shape).Idx → EReal)
    (s0 : (⟨3, ![p, q, 7680]⟩ : Shape).Slices ![0, 0, 3584] ⟨3, ![p, q, 2048]⟩)
    (s1 : (⟨3, ![p, q, 7680]⟩ : Shape).Slices ![0, 0, 5632] ⟨3, ![p, q, 2048]⟩)
    (s2 : (⟨3, ![p, q, 7680]⟩ : Shape).Slices ![0, 0, 0] ⟨3, ![p, q, 1024]⟩)
    (s3 : (⟨3, ![p, q, 7680]⟩ : Shape).Slices ![0, 0, 1536] ⟨3, ![p, q, 1024]⟩)
    (s4 : (⟨3, ![p, q, 7680]⟩ : Shape).Slices ![0, 0, 2560] ⟨3, ![p, q, 1024]⟩)
    (s5 : (⟨3, ![p, q, 7680]⟩ : Shape).Slices ![0, 0, 1024] ⟨3, ![p, q, 256]⟩)
    (s6 : (⟨3, ![p, q, 7680]⟩ : Shape).Slices ![0, 0, 1280] ⟨3, ![p, q, 256]⟩) :
    List ((s : Shape) × (s.Idx → EReal)) :=
  [⟨⟨3, ![p, q, 2048]⟩, extractStridedSlice ⟨3, ![p, q, 2048]⟩ ![0, 0, 3584] x s0⟩,
   ⟨⟨3, ![p, q, 2048]⟩, extractStridedSlice ⟨3, ![p, q, 2048]⟩ ![0, 0, 5632] x s1⟩,
   ⟨⟨3, ![p, q, 1024]⟩, extractStridedSlice ⟨3, ![p, q, 1024]⟩ ![0, 0, 0] x s2⟩,
   ⟨⟨3, ![p, q, 1024]⟩, extractStridedSlice ⟨3, ![p, q, 1024]⟩ ![0, 0, 1536] x s3⟩,
   ⟨⟨3, ![p, q, 1024]⟩, extractStridedSlice ⟨3, ![p, q, 1024]⟩ ![0, 0, 2560] x s4⟩,
   ⟨⟨3, ![p, q, 256]⟩, extractStridedSlice ⟨3, ![p, q, 256]⟩ ![0, 0, 1024] x s5⟩,
   ⟨⟨3, ![p, q, 256]⟩, extractStridedSlice ⟨3, ![p, q, 256]⟩ ![0, 0, 1280] x s6⟩]

/-- Joining them moves column `col j` to column `j`. -/
theorem joined {p q : Nat} (x : (⟨3, ![p, q, 7680]⟩ : Shape).Idx → EReal)
    (s0 : (⟨3, ![p, q, 7680]⟩ : Shape).Slices ![0, 0, 3584] ⟨3, ![p, q, 2048]⟩)
    (s1 : (⟨3, ![p, q, 7680]⟩ : Shape).Slices ![0, 0, 5632] ⟨3, ![p, q, 2048]⟩)
    (s2 : (⟨3, ![p, q, 7680]⟩ : Shape).Slices ![0, 0, 0] ⟨3, ![p, q, 1024]⟩)
    (s3 : (⟨3, ![p, q, 7680]⟩ : Shape).Slices ![0, 0, 1536] ⟨3, ![p, q, 1024]⟩)
    (s4 : (⟨3, ![p, q, 7680]⟩ : Shape).Slices ![0, 0, 2560] ⟨3, ![p, q, 1024]⟩)
    (s5 : (⟨3, ![p, q, 7680]⟩ : Shape).Slices ![0, 0, 1024] ⟨3, ![p, q, 256]⟩)
    (s6 : (⟨3, ![p, q, 7680]⟩ : Shape).Slices ![0, 0, 1280] ⟨3, ![p, q, 256]⟩)
    (h : Shape.Concatenates ((ranges x s0 s1 s2 s3 s4 s5 s6).map (·.1)) ⟨3, ![p, q, 7680]⟩ 2)
    (a : Fin p) (b : Fin q) (j : Fin 7680) :
    concatenate ⟨3, ![p, q, 7680]⟩ 2 (ranges x s0 s1 s2 s3 s4 s5 s6) h (ix3 a b j) = x (ix3 a b (col j)) := by
  have hj := j.isLt
  have hc := col_val j
  by_cases h0 : j.val < 2048
  · exact piece x 3584 0 0 s0 _ h (by show 0 < 7; decide) rfl rfl a b j (by omega) (by omega) (by rw [hc]; split_ifs <;> omega)
  by_cases h1 : j.val < 4096
  · exact piece x 5632 2048 1 s1 _ h (by show 1 < 7; decide) rfl rfl a b j (by omega) (by omega) (by rw [hc]; split_ifs <;> omega)
  by_cases h2 : j.val < 5120
  · exact piece x 0 4096 2 s2 _ h (by show 2 < 7; decide) rfl rfl a b j (by omega) (by omega) (by rw [hc]; split_ifs <;> omega)
  by_cases h3 : j.val < 6144
  · exact piece x 1536 5120 3 s3 _ h (by show 3 < 7; decide) rfl rfl a b j (by omega) (by omega) (by rw [hc]; split_ifs <;> omega)
  by_cases h4 : j.val < 7168
  · exact piece x 2560 6144 4 s4 _ h (by show 4 < 7; decide) rfl rfl a b j (by omega) (by omega) (by rw [hc]; split_ifs <;> omega)
  by_cases h5 : j.val < 7424
  · exact piece x 1024 7168 5 s5 _ h (by show 5 < 7; decide) rfl rfl a b j (by omega) (by omega) (by rw [hc]; split_ifs <;> omega)
  exact piece x 1280 7424 6 s6 _ h (by show 6 < 7; decide) rfl rfl a b j (by omega) (by omega) (by rw [hc]; split_ifs <;> omega)

/-- The projection of one prompt row, before its columns are reordered. -/
theorem prompt_apply (x0 : S1x16384x2048.Idx → EReal) (x2 : S1x2048.Idx → EReal) (x3 : S1x2048x7680.Idx → EReal)
    (r : Fin 16384) (j : Fin 7680) :
    val_main_v15 (F := Ideal) x0 x2 x3 (ix3 0 r j)
      = ∑ k : Fin 2048, scaled (fun l => x0 (ix3 0 r l)) (fun l => x2 (ix2 0 l)) k * x3 (ix3 0 k j) := by
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, scaled]

/-- The projection of one sample row, before its columns are reordered. -/
theorem sample_apply (x1 : S128x4x2048.Idx → EReal) (x2 : S1x2048.Idx → EReal) (x3 : S1x2048x7680.Idx → EReal)
    (p : Fin 128) (q : Fin 4) (j : Fin 7680) :
    val_main_v40 (F := Ideal) x1 x2 x3 (ix3 p q j)
      = ∑ k : Fin 2048, scaled (fun l => x1 (ix3 p q l)) (fun l => x2 (ix2 0 l)) k * x3 (ix3 0 k j) := by
  pointwise [val_main_v40, val_main_v39, val_main_v38, val_main_v37, val_main_v36, val_main_v35, val_main_v34, val_main_v33,
    val_main_v32, val_main_v31, val_main_v30, val_main_v29, val_main_v28, val_main_v27, val_main_v26, val_main_v25,
    val_main_cst_2, val_main_cst_3, val_main_cst_4, scaled]

/-- The reference's result, at an index, is the projection. -/
theorem value_apply (x0 : S1x16384x2048.Idx → EReal) (x1 : S128x4x2048.Idx → EReal) (x2 : S1x2048.Idx → EReal)
    (x3 : S1x2048x7680.Idx → EReal) (r : Fin 16896) (j : Fin 7680) :
    val_main_v51 (F := Ideal) x0 x1 x2 x3 (ix2 r j) = proj x0 x1 x2 x3 (ix2 r j) := by
  show val_main_v50 (F := Ideal) x0 x1 x2 x3 (ix2 r j) = _
  unfold val_main_v50 proj
  show _ = ∑ k : Fin 2048, scaled (tok x0 x1 r) _ k * _
  have hr := r.isLt
  by_cases h : r.val < 16384
  · have et : tok x0 x1 r = fun l => x0 (ix3 0 ⟨r.val, h⟩ l) := funext fun l => by
      unfold tok
      rw [dif_pos h]
    rw [concatenate_pair_apply_left (s₁ := S16384x7680) (s₂ := S512x7680) _ _ _ _ (ix2 r j) rfl (ix2 ⟨r.val, h⟩ j)
      (fun b => match b with | ⟨0, _⟩ => rfl | ⟨1, _⟩ => rfl), et]
    unfold val_main_v24
    rw [shapeCast_apply _ shapeCasts_S1x16384x7680_S16384x7680 (ix2 ⟨r.val, h⟩ j) (ix3 0 ⟨r.val, h⟩ j) (by
      rw [Shape.rowMajor_val_three, Shape.rowMajor_val_two]
      show (0 * 16384 + r.val) * 7680 + j.val = r.val * 7680 + j.val
      omega)]
    exact (joined (val_main_v15 (F := Ideal) x0 x2 x3) _ _ _ _ _ _ _ _ 0 ⟨r.val, h⟩ j).trans (prompt_apply x0 x2 x3 _ _)
  · have et : tok x0 x1 r = fun l => x1 (ix3 ⟨(r.val - 16384) / 4, by omega⟩ ⟨(r.val - 16384) % 4, by omega⟩ l) :=
      funext fun l => by
        unfold tok
        rw [dif_neg h]
    rw [concatenate_pair_apply_right (s₁ := S16384x7680) (s₂ := S512x7680) _ _ _ _ (ix2 r j) rfl rfl
      (ix2 ⟨r.val - 16384, by omega⟩ j)
      (fun b => match b with | ⟨0, _⟩ => fun hb => absurd rfl hb | ⟨1, _⟩ => fun _ => rfl)
      (by show r.val - 16384 + 16384 = r.val; omega), et]
    unfold val_main_v49
    rw [shapeCast_apply _ shapeCasts_S128x4x7680_S512x7680 _
      (ix3 ⟨(r.val - 16384) / 4, by omega⟩ ⟨(r.val - 16384) % 4, by omega⟩ j) (by
      rw [Shape.rowMajor_val_three, Shape.rowMajor_val_two]
      show ((r.val - 16384) / 4 * 4 + (r.val - 16384) % 4) * 7680 + j.val = (r.val - 16384) * 7680 + j.val
      omega)]
    exact (joined (val_main_v40 (F := Ideal) x1 x2 x3) _ _ _ _ _ _ _ _ _ _ j).trans (sample_apply x1 x2 x3 _ _ _)

end Cert.InprojReferenceIdeal.Proj

namespace Cert.Proof

/-- Over the extended reals the kernel's projection is the reference's. -/
theorem inproj_algebraic : Cert.algebraic_InprojKernelIdeal_InprojReferenceIdeal
    (hInprojKernelIdeal := Cert.InprojKernelIdeal.Gen.facts) (hInprojReferenceIdeal := Cert.InprojReferenceIdeal.Gen.facts) := by
  intro m g m' g' _ hargs
  refine ⟨fun c => Cert.Inproj.proj
    (m ((c.tc : Thread Cert.InprojKernelIdeal.nD Cert.InprojKernelIdeal.τ).loc Cert.InprojKernelIdeal.main_arg0))
    (m ((c.tc : Thread Cert.InprojKernelIdeal.nD Cert.InprojKernelIdeal.τ).loc Cert.InprojKernelIdeal.main_arg1))
    (m ((c.tc : Thread Cert.InprojKernelIdeal.nD Cert.InprojKernelIdeal.τ).loc Cert.InprojKernelIdeal.main_arg2))
    (m ((c.tc : Thread Cert.InprojKernelIdeal.nD Cert.InprojKernelIdeal.τ).loc Cert.InprojKernelIdeal.main_arg3)), ?_, ?_⟩
  · exact Cert.InprojKernelIdeal.Proj.run m g
  refine (θ_run Cert.InprojReferenceIdeal.defs _ _).mono (fun r h c => ⟨?_, (h c).2⟩)
    (Cert.InprojReferenceIdeal.Value.run (F := Ideal) m' g')
  refine (h c).1.trans ((Cert.InprojReferenceIdeal.Read.val_main_v51_eq (F := Ideal) _ _).trans ?_)
  rw [(hargs c).1, (hargs c).2.1, (hargs c).2.2.1, (hargs c).2.2.2]
  refine funext fun y => ?_
  refine (congrArg _ (eq_ix2 (n0 := 16896) (n1 := 7680) y)).trans
    ((Cert.InprojReferenceIdeal.Proj.value_apply _ _ _ _ (y 0) (y 1)).trans
      (congrArg _ (eq_ix2 (n0 := 16896) (n1 := 7680) y).symm))

end Cert.Proof

end
-- ==== Proof.AttnLaws.lean ====
/-
  What the attention over the prompt computes, and what both readings of it rest on: a weighted mean is unchanged when keys
  of no weight are left out, dividing commutes with it, and every score is finite when the projection's entries are.
-/
module

public import Idealize.ShloMosaic.Lib.Pointwise
public import Idealize.ShloMosaic.Lib.ValueIdx
public import Idealize.ShloMosaic.PureOps.Ideal.Laws

@[expose] public section

noncomputable section

open Idealize.ShloMosaic

namespace Cert.Attn

/-! ## The weighted mean -/

/-- The largest of some scores and one more. -/
def peak {n : ℕ} (s : Fin n → EReal) (b : EReal) : EReal := max (Finset.univ.fold max ⊥ s) b

/-- The mean of some values, weighted by the exponentials of their scores, where one more score takes its share of the weight. -/
def soft {n : ℕ} (s : Fin n → EReal) (b : EReal) (v : Fin n → EReal) : EReal :=
  Ideal.div (∑ j, Ideal.exp (s j - peak s b) * v j) ((∑ j, Ideal.exp (s j - peak s b)) + Ideal.exp (b - peak s b))

theorem peak_le {n : ℕ} (s : Fin n → EReal) (b x : EReal) : peak s b ≤ x ↔ (∀ j, s j ≤ x) ∧ b ≤ x := by
  unfold peak
  rw [max_le_iff, Finset.fold_max_le]
  simp

theorem le_peak {n : ℕ} (s : Fin n → EReal) (b : EReal) : (∀ j, s j ≤ peak s b) ∧ b ≤ peak s b :=
  (peak_le s b _).1 le_rfl

/-- A key whose score is −∞ has no weight. -/
theorem weight_bot (x v : EReal) : Ideal.exp (⊥ - x) = 0 ∧ Ideal.exp (⊥ - x) * v = 0 := by
  rw [EReal.bot_sub, Ideal.exp_bot]
  exact ⟨rfl, zero_mul v⟩

/-- A sum over all indices is the sum over those that meet others, when the rest of both sums is zero. -/
theorem sum_meet {n N : ℕ} (A : Finset (Fin n)) (e : Fin n → Fin N) (he : Set.InjOn e A) (f : Fin n → EReal) (F : Fin N → EReal)
    (h1 : ∀ j ∈ A, f j = F (e j)) (h2 : ∀ j, j ∉ A → f j = 0) (h3 : ∀ i, (∀ j ∈ A, e j ≠ i) → F i = 0) :
    ∑ j, f j = ∑ i, F i := by
  classical
  rw [← Finset.sum_subset (Finset.subset_univ A) (fun j _ h => h2 j h),
    ← Finset.sum_subset (Finset.subset_univ (A.image e)) (fun i _ h => h3 i fun j hj hji => h (Finset.mem_image.2 ⟨j, hj, hji⟩)),
    Finset.sum_image he]
  exact Finset.sum_congr rfl h1

/-- The weighted mean over some keys is the weighted mean over others, when the keys with a weight meet each other. -/
theorem soft_meet {n N : ℕ} (A : Finset (Fin n)) (e : Fin n → Fin N) (he : Set.InjOn e A) (s : Fin n → EReal) (S : Fin N → EReal)
    (b : EReal) (v : Fin n → EReal) (V : Fin N → EReal) (h1 : ∀ j ∈ A, s j = S (e j) ∧ v j = V (e j))
    (h2 : ∀ j, j ∉ A → s j = ⊥) (h3 : ∀ i, (∀ j ∈ A, e j ≠ i) → S i = ⊥) : soft s b v = soft S b V := by
  have hp : peak s b = peak S b := by
    refine le_antisymm ((peak_le s b _).2 ⟨fun j => ?_, (le_peak S b).2⟩) ((peak_le S b _).2 ⟨fun i => ?_, (le_peak s b).2⟩)
    · by_cases hj : j ∈ A
      · rw [(h1 j hj).1]; exact (le_peak S b).1 _
      · rw [h2 j hj]; exact bot_le
    · by_cases hi : ∀ j ∈ A, e j ≠ i
      · rw [h3 i hi]; exact bot_le
      · push Not at hi
        obtain ⟨j, hj, rfl⟩ := hi
        rw [← (h1 j hj).1]; exact (le_peak s b).1 j
  unfold soft
  rw [hp]
  congr 1
  · refine sum_meet A e he _ _ (fun j hj => by rw [(h1 j hj).1, (h1 j hj).2]) (fun j hj => ?_) (fun i hi => ?_)
    · rw [h2 j hj]; exact (weight_bot _ _).2
    · rw [h3 i hi]; exact (weight_bot _ _).2
  · refine congrArg (· + _) ?_
    refine sum_meet A e he _ _ (fun j hj => by rw [(h1 j hj).1]) (fun j hj => ?_) (fun i hi => ?_)
    · rw [h2 j hj]; exact (weight_bot _ 0).1
    · rw [h3 i hi]; exact (weight_bot _ 0).1

theorem exp_nonneg (x : EReal) : 0 ≤ Ideal.exp x := by
  induction x with
  | bot => exact le_rfl
  | top => exact le_top
  | coe r => rw [Ideal.exp_coe]; exact EReal.coe_nonneg.2 (Real.exp_pos r).le

theorem exp_pos {x : EReal} (h : x ≠ ⊥) : 0 < Ideal.exp x := by
  induction x with
  | bot => exact absurd rfl h
  | top => exact EReal.zero_lt_top
  | coe r => rw [Ideal.exp_coe]; exact EReal.coe_pos.2 (Real.exp_pos r)

/-- A factor that is not negative and not infinite goes through a sum. -/
theorem sum_mul_of {n : ℕ} (f : Fin n → EReal) (c : EReal) (h0 : 0 ≤ c) (h1 : c ≠ ⊤) : (∑ j, f j) * c = ∑ j, f j * c := by
  refine Finset.induction_on (Finset.univ : Finset (Fin n)) (by simp) fun j A hj ih => ?_
  rw [Finset.sum_insert hj, Finset.sum_insert hj, EReal.right_distrib_of_nonneg_of_ne_top h0 h1, ih]

theorem inv_ne_top (x : EReal) : x⁻¹ ≠ ⊤ := by
  induction x with
  | bot => simp
  | top => simp
  | coe r => rw [← EReal.coe_inv]; exact EReal.coe_ne_top _

/-- Dividing the weights before the mean is taken, or the mean after it, is one. -/
theorem soft_eq {n : ℕ} (s : Fin n → EReal) (b : EReal) (v : Fin n → EReal) (hs : ∀ j, s j ≠ ⊤) (hb : b ≠ ⊤) (hb' : b ≠ ⊥) :
    ∑ j, v j * Ideal.div (Ideal.exp (s j - peak s b)) ((∑ j, Ideal.exp (s j - peak s b)) + Ideal.exp (b - peak s b))
      = soft s b v := by
  have hp : peak s b ≠ ⊤ := by
    have : peak s b < ⊤ := by
      unfold peak
      rw [max_lt_iff, Finset.fold_max_lt]
      exact ⟨⟨bot_lt_top, fun j _ => lt_top_iff_ne_top.2 (hs j)⟩, lt_top_iff_ne_top.2 hb⟩
    exact this.ne
  have hp' : peak s b ≠ ⊥ := fun h => hb' (le_bot_iff.1 (h ▸ (le_peak s b).2))
  have hd : b - peak s b ≠ ⊥ := by
    lift peak s b to ℝ using ⟨hp, hp'⟩ with x
    lift b to ℝ using ⟨hb, hb'⟩ with y
    rw [← EReal.coe_sub]; exact EReal.coe_ne_bot _
  unfold soft
  generalize hD : (∑ j, Ideal.exp (s j - peak s b)) + Ideal.exp (b - peak s b) = D
  have hD0 : 0 < D := by
    rw [← hD]
    exact lt_of_lt_of_le (exp_pos hd) (le_add_of_nonneg_left (Finset.sum_nonneg fun j _ => exp_nonneg _))
  unfold Ideal.div
  simp only [if_neg hD0.ne']
  rw [sum_mul_of _ _ (EReal.inv_nonneg_of_nonneg hD0.le) (inv_ne_top D)]
  refine Finset.sum_congr rfl fun j _ => ?_
  rw [← mul_assoc, mul_comm (v j)]

/-! ## Finite values -/

/-- Neither infinity. -/
def Bounded (x : EReal) : Prop := x ≠ ⊤ ∧ x ≠ ⊥

theorem Bounded.coe (r : ℝ) : Bounded (r : EReal) := ⟨EReal.coe_ne_top r, EReal.coe_ne_bot r⟩

theorem Bounded.mul {x y : EReal} (hx : Bounded x) (hy : Bounded y) : Bounded (x * y) := by
  lift x to ℝ using hx
  lift y to ℝ using hy
  rw [← EReal.coe_mul]; exact Bounded.coe _

theorem Bounded.add {x y : EReal} (hx : Bounded x) (hy : Bounded y) : Bounded (x + y) := by
  lift x to ℝ using hx
  lift y to ℝ using hy
  rw [← EReal.coe_add]; exact Bounded.coe _

theorem Bounded.sub {x y : EReal} (hx : Bounded x) (hy : Bounded y) : Bounded (x - y) := by
  lift x to ℝ using hx
  lift y to ℝ using hy
  rw [← EReal.coe_sub]; exact Bounded.coe _

theorem Bounded.sum {n : ℕ} (f : Fin n → EReal) (h : ∀ j, Bounded (f j)) : Bounded (∑ j, f j) := by
  refine Finset.induction_on (Finset.univ : Finset (Fin n)) (by rw [Finset.sum_empty]; exact Bounded.coe 0) fun j A hj ih => ?_
  rw [Finset.sum_insert hj]; exact (h j).add ih

theorem Bounded.cos {x : EReal} (hx : Bounded x) : Bounded (Ideal.cos x) := by
  lift x to ℝ using hx
  exact Bounded.coe _

theorem Bounded.sin {x : EReal} (hx : Bounded x) : Bounded (Ideal.sin x) := by
  lift x to ℝ using hx
  exact Bounded.coe _

/-! ## The turned queries and keys, and the layer -/

/-- The angle of a position, in the plane numbered `d`. -/
def angle (r : Fin 16384) (d : Fin 32) : EReal :=
  (FloatOps.sitofp .f32 (BitVec.ofNat 32 r.val) : Ideal .f32) *
    Ideal.div 1 (Ideal.pow (Ideal.ofBits .f32 0x461C4000#32)
      ((FloatOps.sitofp .f32 (BitVec.ofNat 32 d.val) : Ideal .f32) * Ideal.ofBits .f32 0x3D000000#32))

/-- The scale of the scores, an eighth. -/
def eighth : EReal := Ideal.ofBits .f32 0x3E000000#32

theorem eighth_eq : eighth = ((1 / 8 : ℝ) : EReal) := by
  simp [eighth, Ideal.ofBits, Ideal.ieee, -EReal.coe_mul]; norm_num

theorem base_eq : Ideal.ofBits .f32 0x461C4000#32 = ((10000 : ℝ) : EReal) := by
  simp [Ideal.ofBits, Ideal.ieee, -EReal.coe_mul]; norm_num

theorem step_eq : Ideal.ofBits .f32 0x3D000000#32 = ((1 / 32 : ℝ) : EReal) := by
  simp [Ideal.ofBits, Ideal.ieee, -EReal.coe_mul]; norm_num

theorem angle_fin (r : Fin 16384) (d : Fin 32) : Bounded (angle r d) := by
  unfold angle
  refine Bounded.mul (Bounded.coe _) ?_
  rw [base_eq, step_eq]
  show Bounded (Ideal.div 1 (Ideal.pow _ ((((BitVec.ofNat 32 d.val).toInt : ℝ) : EReal) * _)))
  rw [← EReal.coe_mul]
  generalize ((BitVec.ofNat 32 d.val).toInt : ℝ) * (1 / 32) = y
  show Bounded (Ideal.div 1 ((Real.rpow 10000 y : ℝ) : EReal))
  have h : (0 : ℝ) < Real.rpow 10000 y := Real.rpow_pos_of_pos (by norm_num) y
  unfold Ideal.div
  rw [if_neg (EReal.coe_pos.2 h).ne', one_mul, ← EReal.coe_inv]
  exact Bounded.coe _

/-- One entry of the columns from `o` on, turned by its position's angle: the two halves of each run of 64 columns are the
    two coordinates of 32 planes. -/
def turn (z : (⟨2, ![16896, 7680]⟩ : Shape).Idx → EReal) (o n : ℕ) (ho : 32 ≤ o ∧ o + n + 32 ≤ 7680) (r : Fin 16384) (e : Fin n) :
    EReal :=
  if e.val % 64 < 32 then
    z (ix2 ⟨r.val, by omega⟩ ⟨o + e.val, by omega⟩) * Ideal.cos (angle r ⟨e.val % 32, by omega⟩)
      - z (ix2 ⟨r.val, by omega⟩ ⟨o + e.val + 32, by omega⟩) * Ideal.sin (angle r ⟨e.val % 32, by omega⟩)
  else
    z (ix2 ⟨r.val, by omega⟩ ⟨o + e.val, by omega⟩) * Ideal.cos (angle r ⟨e.val % 32, by omega⟩)
      + z (ix2 ⟨r.val, by omega⟩ ⟨o + e.val - 32, by omega⟩) * Ideal.sin (angle r ⟨e.val % 32, by omega⟩)

theorem turn_lo (z : (⟨2, ![16896, 7680]⟩ : Shape).Idx → EReal) (o n : ℕ) (ho : 32 ≤ o ∧ o + n + 32 ≤ 7680) (r : Fin 16384)
    (e : Fin n) (h : e.val % 64 < 32) (a b : Fin 7680) (d : Fin 32) (ha : a.val = o + e.val) (hb : b.val = o + e.val + 32)
    (hd : d.val = e.val % 32) : turn z o n ho r e = z (ix2 ⟨r.val, by omega⟩ a) * Ideal.cos (angle r d)
      - z (ix2 ⟨r.val, by omega⟩ b) * Ideal.sin (angle r d) := by
  obtain ⟨a, ha'⟩ := a
  obtain ⟨b, hb'⟩ := b
  obtain ⟨d, hd'⟩ := d
  simp only at ha hb hd
  subst ha hb hd
  exact if_pos h

theorem turn_hi (z : (⟨2, ![16896, 7680]⟩ : Shape).Idx → EReal) (o n : ℕ) (ho : 32 ≤ o ∧ o + n + 32 ≤ 7680) (r : Fin 16384)
    (e : Fin n) (h : ¬ e.val % 64 < 32) (a b : Fin 7680) (d : Fin 32) (ha : a.val = o + e.val) (hb : b.val = o + e.val - 32)
    (hd : d.val = e.val % 32) : turn z o n ho r e = z (ix2 ⟨r.val, by omega⟩ a) * Ideal.cos (angle r d)
      + z (ix2 ⟨r.val, by omega⟩ b) * Ideal.sin (angle r d) := by
  obtain ⟨a, ha'⟩ := a
  obtain ⟨b, hb'⟩ := b
  obtain ⟨d, hd'⟩ := d
  simp only at ha hb hd
  subst ha hb hd
  exact if_neg h

/-- The turned entry from the entry itself, the one across its plane, and a table that carries the sine's sign. -/
theorem turn_eq (z : (⟨2, ![16896, 7680]⟩ : Shape).Idx → EReal) (o n : ℕ) (ho : 32 ≤ o ∧ o + n + 32 ≤ 7680) (r : Fin 16384)
    (e : Fin n) (a up dn C S : EReal) (ha : a = z (ix2 ⟨r.val, by omega⟩ ⟨o + e.val, by omega⟩))
    (hup : ∀ h : e.val % 64 < 32, up = z (ix2 ⟨r.val, by omega⟩ ⟨o + e.val + 32, by omega⟩))
    (hdn : ∀ h : ¬ e.val % 64 < 32, dn = z (ix2 ⟨r.val, by omega⟩ ⟨o + e.val - 32, by omega⟩))
    (hC : C = Ideal.cos (angle r ⟨e.val % 32, by omega⟩))
    (hS : S = if e.val % 64 < 32 then - Ideal.sin (angle r ⟨e.val % 32, by omega⟩)
      else Ideal.sin (angle r ⟨e.val % 32, by omega⟩)) :
    a * C + (if e.val % 64 < 32 then up else dn) * S = turn z o n ho r e := by
  by_cases h : e.val % 64 < 32
  · simp only [turn, hS, if_pos h, hup h, ha, hC, mul_neg, ← sub_eq_add_neg]
  · simp only [turn, hS, if_neg h, hdn h, ha, hC]

theorem turn_fin (z : (⟨2, ![16896, 7680]⟩ : Shape).Idx → EReal) (hz : ∀ i, Bounded (z i)) (o n : ℕ)
    (ho : 32 ≤ o ∧ o + n + 32 ≤ 7680) (r : Fin 16384) (e : Fin n) : Bounded (turn z o n ho r e) := by
  unfold turn
  split
  · exact ((hz _).mul (angle_fin _ _).cos).sub ((hz _).mul (angle_fin _ _).sin)
  · exact ((hz _).mul (angle_fin _ _).cos).add ((hz _).mul (angle_fin _ _).sin)

/-- The turned queries. -/
abbrev query (z : (⟨2, ![16896, 7680]⟩ : Shape).Idx → EReal) (r : Fin 16384) (e : Fin 1024) : EReal :=
  turn z 4096 1024 (by decide) r e

/-- The turned keys. -/
abbrev key (z : (⟨2, ![16896, 7680]⟩ : Shape).Idx → EReal) (r : Fin 16384) (e : Fin 256) : EReal :=
  turn z 7168 256 (by decide) r e

/-- The values. -/
def value (z : (⟨2, ![16896, 7680]⟩ : Shape).Idx → EReal) (r : Fin 16384) (e : Fin 256) : EReal :=
  z (ix2 ⟨r.val, by omega⟩ ⟨7424 + e.val, by omega⟩)

/-- The score of key `s` for query `r` in a head: −∞ for a later key and for one 128 or more rows back. -/
def score (z : (⟨2, ![16896, 7680]⟩ : Shape).Idx → EReal) (h : Fin 16) (r s : Fin 16384) : EReal :=
  if s.val ≤ r.val ∧ r.val < s.val + 128 then
    (∑ e : Fin 64, query z r ⟨h.val * 64 + e.val, by omega⟩ * key z s ⟨h.val / 4 * 64 + e.val, by omega⟩) * eighth
  else ⊥

theorem score_ne_top (z : (⟨2, ![16896, 7680]⟩ : Shape).Idx → EReal) (hz : ∀ i, Bounded (z i)) (h : Fin 16) (r s : Fin 16384) :
    score z h r s ≠ ⊤ := by
  unfold score
  split
  · rw [eighth_eq]
    exact ((Bounded.sum _ fun e => (turn_fin z hz _ _ _ r _).mul (turn_fin z hz _ _ _ s _)).mul (Bounded.coe _)).1
  · exact bot_ne_top

/-- The layer's attention over the prompt: each head's weighted mean of the values, the head's sink sharing the weight. -/
def attn (z : (⟨2, ![16896, 7680]⟩ : Shape).Idx → EReal) (b : (⟨2, ![1, 16]⟩ : Shape).Idx → EReal) :
    (⟨2, ![16384, 1024]⟩ : Shape).Idx → EReal := fun i =>
  have h1 : (i 1).val < 1024 := (i 1).isLt
  soft (score z ⟨(i 1).val / 64, by omega⟩ (i 0)) (b (ix2 0 ⟨(i 1).val / 64, by omega⟩))
    (fun s => value z s ⟨(i 1).val / 64 / 4 * 64 + (i 1).val % 64, by omega⟩)

/-- The last 128 rows of turned keys. -/
def keys (z : (⟨2, ![16896, 7680]⟩ : Shape).Idx → EReal) : (⟨2, ![128, 256]⟩ : Shape).Idx → EReal := fun i =>
  key z ⟨16256 + (i 0).val, by have h : (i 0).val < 128 := (i 0).isLt; omega⟩ (i 1)

/-- The last 128 rows of values. -/
def values (z : (⟨2, ![16896, 7680]⟩ : Shape).Idx → EReal) : (⟨2, ![128, 256]⟩ : Shape).Idx → EReal := fun i =>
  value z ⟨16256 + (i 0).val, by have h : (i 0).val < 128 := (i 0).isLt; omega⟩ (i 1)

end Cert.Attn
-- ==== Proof.AttnBody.lean ====
/-
  The body of the kernel of the attention over the prompt, read entry by entry: the scaled and turned queries, the staged keys
  and values of two blocks, the pairs that attend, and every head's weighted mean.
-/
module

public import proofs.«01_k».proof.Defs
public import proofs.«01_k».proof.Proof.Inproj
public import proofs.«01_k».proof.Proof.AttnLaws
public import proofs.«01_k».proof.Proof.Gen.AttnKernelIdeal.Value
public import Idealize.ShloMosaic.Lib.Pipeline.Value
public import Idealize.ShloMosaic.Lib.Pipeline.ValueKit.Tiles
public import Idealize.ShloMosaic.Lib.Pointwise
public import Idealize.ShloMosaic.Lib.ValueIdx
public import Idealize.ShloMosaic.PureOps.Ideal.Laws
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AttnKernelIdeal.Mix

open Cert.AttnKernelIdeal Cert.AttnKernelIdeal.Gen Cert.Attn

variable (m : (ℓ : Loc nD τ sig) → Buf (Elt Ideal) ℓ) (ρ : Dev nD → PrngReg)

/-- The pairs of a row and a staged key that attend, at the point numbered `a`. -/
def seen (a : BitVec 32) : IVec S128x256 1 :=
  k0_pay14 a (iota Kind.tc S128x256 32 [1] iota_S128x256_d1_w32) k0_pay12 k0_pay13

/-- The sixteen heads' rows as the body computes them, from the scaled and turned queries, the keys, the values and the sinks. -/
def heads (a : BitVec 32) (q : Vec Ideal S128x1024 .bf16) (k v : Vec Ideal S256x256 .bf16) (s : Vec Ideal S16 .f32) :
    Fin 16 → FVec Ideal S128x64 .f32
  | 0 => k0_pay15 (F := Ideal) a q k v (iota Kind.tc S128x256 32 [1] iota_S128x256_d1_w32) k0_pay12 k0_pay13 (s (ix1 0))
  | 1 => k0_pay21 (F := Ideal) (k0_pay16 (F := Ideal) v) (s (ix1 1)) (k0_pay18 (F := Ideal) a q k (iota Kind.tc S128x256 32 [1] iota_S128x256_d1_w32) k0_pay12 k0_pay13 (s (ix1 1))) (k0_pay19 (F := Ideal) a q k (iota Kind.tc S128x256 32 [1] iota_S128x256_d1_w32) k0_pay12 k0_pay13 (s (ix1 1)))
      (k0_pay20 (F := Ideal) a q k (iota Kind.tc S128x256 32 [1] iota_S128x256_d1_w32) k0_pay12 k0_pay13 (s (ix1 1)))
  | 2 => k0_pay22 (F := Ideal) q k v (seen a) (s (ix1 2))
  | 3 => k0_pay28 (F := Ideal) (k0_pay23 (F := Ideal) v) (s (ix1 3)) (k0_pay25 (F := Ideal) q k (seen a) (s (ix1 3)))
      (k0_pay26 (F := Ideal) q k (seen a) (s (ix1 3))) (k0_pay27 (F := Ideal) q k (seen a) (s (ix1 3)))
  | 4 => k0_pay29 (F := Ideal) q k v (seen a) (s (ix1 4))
  | 5 => k0_pay35 (F := Ideal) (k0_pay30 (F := Ideal) v) (s (ix1 5)) (k0_pay32 (F := Ideal) q k (seen a) (s (ix1 5)))
      (k0_pay33 (F := Ideal) q k (seen a) (s (ix1 5))) (k0_pay34 (F := Ideal) q k (seen a) (s (ix1 5)))
  | 6 => k0_pay36 (F := Ideal) q k v (seen a) (s (ix1 6))
  | 7 => k0_pay42 (F := Ideal) (k0_pay37 (F := Ideal) v) (s (ix1 7)) (k0_pay39 (F := Ideal) q k (seen a) (s (ix1 7)))
      (k0_pay40 (F := Ideal) q k (seen a) (s (ix1 7))) (k0_pay41 (F := Ideal) q k (seen a) (s (ix1 7)))
  | 8 => k0_pay43 (F := Ideal) q k v (seen a) (s (ix1 8))
  | 9 => k0_pay49 (F := Ideal) (k0_pay44 (F := Ideal) v) (s (ix1 9)) (k0_pay46 (F := Ideal) q k (seen a) (s (ix1 9)))
      (k0_pay47 (F := Ideal) q k (seen a) (s (ix1 9))) (k0_pay48 (F := Ideal) q k (seen a) (s (ix1 9)))
  | 10 => k0_pay50 (F := Ideal) q k v (seen a) (s (ix1 10))
  | 11 => k0_pay56 (F := Ideal) (k0_pay51 (F := Ideal) v) (s (ix1 11)) (k0_pay53 (F := Ideal) q k (seen a) (s (ix1 11)))
      (k0_pay54 (F := Ideal) q k (seen a) (s (ix1 11))) (k0_pay55 (F := Ideal) q k (seen a) (s (ix1 11)))
  | 12 => k0_pay57 (F := Ideal) q k v (seen a) (s (ix1 12))
  | 13 => k0_pay63 (F := Ideal) (k0_pay58 (F := Ideal) v) (s (ix1 13)) (k0_pay60 (F := Ideal) q k (seen a) (s (ix1 13)))
      (k0_pay61 (F := Ideal) q k (seen a) (s (ix1 13))) (k0_pay62 (F := Ideal) q k (seen a) (s (ix1 13)))
  | 14 => k0_pay64 (F := Ideal) q k v (seen a) (s (ix1 14))
  | 15 => k0_pay1 (F := Ideal) (k0_pay65 (F := Ideal) v) (s (ix1 15)) (k0_pay67 (F := Ideal) q k (seen a) (s (ix1 15)))
      (k0_pay68 (F := Ideal) q k (seen a) (s (ix1 15))) (k0_pay69 (F := Ideal) q k (seen a) (s (ix1 15)))
  | ⟨n + 16, h⟩ => absurd h (by omega)

/-- The body's block of all heads side by side. -/
def blk (a : BitVec 32) (q : Vec Ideal S128x1024 .bf16) (k v : Vec Ideal S256x256 .bf16) (s : Vec Ideal S16 .f32) :
    Vec Ideal S128x1024 .bf16 :=
  k0_pay2 (F := Ideal) (heads a q k v s 0) (heads a q k v s 1) (heads a q k v s 2) (heads a q k v s 3) (heads a q k v s 4) (heads a q k v s 5) (heads a q k v s 6) (heads a q k v s 7) (heads a q k v s 8) (heads a q k v s 9) (heads a q k v s 10) (heads a q k v s 11) (heads a q k v s 12) (heads a q k v s 13) (heads a q k v s 14) (heads a q k v s 15)

theorem mask_bot : (Named.named κ "mask" 0xF149F2CA#32 : Ideal .f32) = ⊥ := rfl

theorem ofBits_bot : Ideal.ofBits .f32 0xFF800000#32 = ⊥ := by
  simp [Ideal.ofBits, Ideal.ieee]

set_option maxHeartbeats 4000000 in
/-- Every head's row is the weighted mean of its values. -/
theorem heads_apply (a : BitVec 32) (q : Vec Ideal S128x1024 .bf16) (k v : Vec Ideal S256x256 .bf16) (s : Vec Ideal S16 .f32)
    (h : Fin 16) (p : Fin 128) (d : Fin 64) : heads a q k v s h (ix2 p d)
      = soft (fun j : Fin 256 => Scalar.select (seen a (ix2 p j))
          (∑ e : Fin 64, q (ix2 p ⟨h.val * 64 + e.val, by omega⟩) * k (ix2 j ⟨h.val / 4 * 64 + e.val, by omega⟩)) ⊥)
        (s (ix1 h)) (fun j => v (ix2 j ⟨h.val / 4 * 64 + d.val, by omega⟩)) := by
  have h2 : k0_pay14 a (iota Kind.tc S128x256 32 [1] iota_S128x256_d1_w32) k0_pay12 k0_pay13 = seen a := rfl
  have hm := mask_bot
  have hb := ofBits_bot
  match h with
  | 0 | 1 | 2 | 3 | 4 | 5 | 6 | 7 | 8 | 9 | 10 | 11 | 12 | 13 | 14 | 15 =>
    pointwise [heads, k0_pay1, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, h2]
    rw [hm, hb]
    rfl
  | ⟨n + 16, h⟩ => exact absurd h (by omega)

theorem blk_apply (a : BitVec 32) (q : Vec Ideal S128x1024 .bf16) (k v : Vec Ideal S256x256 .bf16) (s : Vec Ideal S16 .f32)
    (h : Fin 16) (p : Fin 128) (d : Fin 64) (j : Fin 1024) (hj : j.val = h.val * 64 + d.val) :
    blk a q k v s (ix2 p j) = heads a q k v s h (ix2 p d) := by
  unfold blk k0_pay2
  generalize heads a q k v s = f
  have hd := d.isLt
  refine (concatenate_ofFn_apply (t := S128x1024) (s₁ := S128x64) (N := 16) 1 f
    concatenates_S128x64_S128x64_S128x64_S128x64_S128x64_S128x64_S128x64_S128x64_S128x64_S128x64_S128x64_S128x64_S128x64_S128x64_S128x64_S128x64_S128x1024_d1
    rfl 64 rfl (ix2 p j) h ?_ (ix2 p d) ?_ ?_)
  · show (j.val / 64 = _); omega
  · show (d.val = j.val % 64); omega
  · intro b hb
    match b with
    | ⟨0, _⟩ => rfl
    | ⟨1, _⟩ => exact absurd rfl hb

set_option maxHeartbeats 4000000 in
theorem out10 (c : Dev nD) (t : Fin cfg0.N) : (outsAt0 m c t).1
    = blk (BitVec.ofNat 32 ↑(grid0.coords t 0)) (k0_pay3 (F := Ideal) (X0_1 m c t) (iblk m c 6 t) (iblk m c 7 t))
      (k0_pay10 (F := Ideal) (k0_pay4 (F := Ideal) (iblk m c 2 t)) (k0_pay5 (F := Ideal) (iblk m c 2 t))
        (k0_pay6 (F := Ideal) (iblk m c 6 t)) (k0_pay7 (F := Ideal) (iblk m c 7 t))
        (iblk m c 3 t) (iblk m c 8 t) (iblk m c 9 t))
      (k0_pay11 (F := Ideal) (iblk m c 5 t) (iblk m c 4 t)) (iblk m c 0 t) := by
  unfold outsAt0
  frame_out
  unfold blk
  generalize k0_pay3 (F := Ideal) (X0_1 m c t) (iblk m c 6 t) (iblk m c 7 t) = q
  generalize k0_pay10 (F := Ideal) _ _ _ _ _ _ _ = k
  generalize k0_pay11 (F := Ideal) _ _ = v
  generalize BitVec.ofNat 32 ↑(grid0.coords t 0) = a
  simp only [heads, seen]
  rfl

/-- A block of keys turned by the tables. -/
abbrev turned (x : Vec Ideal S128x256 .bf16) (c s : Vec Ideal S128x128 .f32) : FVec Ideal S128x256 .f32 :=
  k0_pay8 (F := Ideal) (k0_pay4 (F := Ideal) x) (k0_pay5 (F := Ideal) x) (k0_pay6 (F := Ideal) c) (k0_pay7 (F := Ideal) s)

theorem out11 (c : Dev nD) (t : Fin cfg0.N) : (outsAt0 m c t).2.1
    = turned (iblk m c 2 t) (iblk m c 6 t) (iblk m c 7 t) := by
  unfold outsAt0
  frame_out

theorem out12 (c : Dev nD) (t : Fin cfg0.N) : (outsAt0 m c t).2.2 = k0_pay9 (F := Ideal) (iblk m c 4 t) := by
  unfold outsAt0
  frame_out

theorem low_eq : ∀ e : Fin 1024, IntOp.cmpi CmpIPredicate.eq (IntOp.andi (BitVec.ofNat 32 e.val) 32#32) 0#32
    = if e.val % 64 < 32 then 1#1 else 0#1 := by
  decide +kernel

theorem select_if (q : Prop) [Decidable q] (a b : EReal) :
    Scalar.select (if q then (1#1 : BitVec 1) else 0#1) a b = if q then a else b := by
  by_cases h : q <;> simp [h, Scalar.select]

theorem query_apply (x : Vec Ideal S128x1024 .bf16) (c s : Vec Ideal S128x128 .f32) (p : Fin 128) (e : Fin 1024) :
    k0_pay3 (F := Ideal) x c s (ix2 p e) = (x (ix2 p e) * c (ix2 p ⟨e.val % 128, by omega⟩)
      + (if e.val % 64 < 32 then x (ix2 p ⟨(e.val + 1024 - 992) % 1024, by omega⟩)
          else x (ix2 p ⟨(e.val + 1024 - 32) % 1024, by omega⟩)) * s (ix2 p ⟨e.val % 128, by omega⟩)) * eighth := by
  have hw (w : Vec Ideal S128x128 .f32) : concatenate S128x1024 1 [⟨S128x128, w⟩, ⟨S128x128, w⟩, ⟨S128x128, w⟩, ⟨S128x128, w⟩,
      ⟨S128x128, w⟩, ⟨S128x128, w⟩, ⟨S128x128, w⟩, ⟨S128x128, w⟩]
      concatenates_S128x128_S128x128_S128x128_S128x128_S128x128_S128x128_S128x128_S128x128_S128x1024_d1 (ix2 p e)
      = w (ix2 p ⟨e.val % 128, by omega⟩) := by
    refine (concatenate_ofFn_apply (t := S128x1024) (s₁ := S128x128) (N := 8) 1 (fun _ => w) _ rfl 128 rfl (ix2 p e)
      ⟨e.val / 128, by omega⟩ rfl (ix2 p ⟨e.val % 128, by omega⟩) rfl ?_)
    intro b hb
    match b with
    | ⟨0, _⟩ => rfl
    | ⟨1, _⟩ => exact absurd rfl hb
  rw [← select_if, ← low_eq, ← hw c, ← hw s]
  unfold k0_pay3 eighth
  pointwise []

theorem turned_apply (x : Vec Ideal S128x256 .bf16) (c s : Vec Ideal S128x128 .f32) (p : Fin 128) (e : Fin 256) :
    turned x c s (ix2 p e) = x (ix2 p e) * c (ix2 p ⟨e.val % 128, by omega⟩)
      + (if e.val % 64 < 32 then x (ix2 p ⟨(e.val + 256 - 224) % 256, by omega⟩)
          else x (ix2 p ⟨(e.val + 256 - 32) % 256, by omega⟩)) * s (ix2 p ⟨e.val % 128, by omega⟩) := by
  rw [← select_if, ← low_eq ⟨e.val, by omega⟩]
  by_cases h : e.val < 128
  · have h' : e.val % 128 = e.val := by omega
    pointwise [k0_pay8, k0_pay4, k0_pay5, k0_pay6, k0_pay7, h, h']
  · have h' : e.val % 128 = e.val - 128 := by omega
    pointwise [k0_pay8, k0_pay4, k0_pay5, k0_pay6, k0_pay7, h, h']

theorem staged_apply (x y : Vec Ideal S128x256 .bf16) (c s c' s' : Vec Ideal S128x128 .f32) (p e : Fin 256) :
    k0_pay10 (F := Ideal) (k0_pay4 (F := Ideal) x) (k0_pay5 (F := Ideal) x) (k0_pay6 (F := Ideal) c) (k0_pay7 (F := Ideal) s)
      y c' s' (ix2 p e)
      = if h : p.val < 128 then turned y c' s' (ix2 ⟨p.val, h⟩ e) else turned x c s (ix2 ⟨p.val - 128, by omega⟩ e) := by
  pointwise [k0_pay10, k0_pay8, k0_pay4, k0_pay5, k0_pay6, k0_pay7]

theorem values_apply (x y : Vec Ideal S128x256 .bf16) (p e : Fin 256) :
    k0_pay11 (F := Ideal) y x (ix2 p e)
      = if h : p.val < 128 then y (ix2 ⟨p.val, h⟩ e) else x (ix2 ⟨p.val - 128, by omega⟩ e) := by
  pointwise [k0_pay11]

theorem band_eq : ∀ (p : Fin 128) (j : Fin 256),
    IntOp.andi (IntOp.cmpi CmpIPredicate.sle (BitVec.ofNat 32 j.val) (IntOp.addi (BitVec.ofNat 32 p.val) 128#32))
        (IntOp.cmpi CmpIPredicate.sgt (BitVec.ofNat 32 j.val) (BitVec.ofNat 32 p.val))
      = if p.val < j.val ∧ j.val ≤ p.val + 128 then 1#1 else 0#1 := by
  decide +kernel

theorem own_eq : ∀ j : Fin 256, IntOp.cmpi CmpIPredicate.sge (BitVec.ofNat 32 j.val) 128#32
    = if 128 ≤ j.val then 1#1 else 0#1 := by
  decide +kernel

theorem later_eq : ∀ t : Fin cfg0.N, Scalar.cmpi CmpIPredicate.sgt (BitVec.ofNat 32 ↑(grid0.coords t 0)) 0#32
    = if 0 < t.val then 1#1 else 0#1 := by
  decide +kernel

theorem seen_apply (t : Fin cfg0.N) (p : Fin 128) (j : Fin 256) : seen (BitVec.ofNat 32 ↑(grid0.coords t 0)) (ix2 p j)
    = if (p.val < j.val ∧ j.val ≤ p.val + 128) ∧ (0 < t.val ∨ 128 ≤ j.val) then 1#1 else 0#1 := by
  have hl := later_eq t
  generalize BitVec.ofNat 32 ↑(grid0.coords t 0) = a at hl ⊢
  pointwise [seen, k0_pay12, k0_pay13, k0_pay14]
  rw [hl, band_eq, own_eq]
  by_cases h1 : p.val < j.val ∧ j.val ≤ p.val + 128 <;> by_cases h2 : 0 < t.val <;> by_cases h3 : 128 ≤ j.val <;>
    simp only [h1, h2, h3, if_true, if_false, and_true, or_true, true_or, or_false, and_false, false_or] <;> decide

end Cert.AttnKernelIdeal.Mix
-- ==== Proof.AttnRows.lean ====
/-
  What the kernel of the attention over the prompt leaves in its outputs: every row of the attention, and the last block's
  turned keys and values. The host's tables of angles and the blocks a point stages are read first.
-/
module

public import proofs.«01_k».proof.Defs
public import proofs.«01_k».proof.Proof.Inproj
public import proofs.«01_k».proof.Proof.AttnBody
public import proofs.«01_k».proof.Proof.Gen.AttnKernelIdeal.Value
public import Idealize.ShloMosaic.Lib.Pipeline.Value
public import Idealize.ShloMosaic.Lib.Pipeline.ValueKit.Tiles
public import Idealize.ShloMosaic.Lib.Pointwise
public import Idealize.ShloMosaic.Lib.ValueIdx
public import Idealize.ShloMosaic.PureOps.Ideal.Laws
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AttnKernelIdeal.Mix

open Cert.AttnKernelIdeal Cert.AttnKernelIdeal.Gen Cert.Attn

variable (m : (ℓ : Loc nD τ sig) → Buf (Elt Ideal) ℓ) (ρ : Dev nD → PrngReg)

/-! ## The host's tables -/

/-- The frequencies of the planes. -/
def freq : S32.Idx → EReal :=
  Host.divf (F := Ideal) (φ := .f32) (broadcastInDim S32 ![] bcast_S_S32 (constant (F := Ideal) S_ .f32 0x3F800000#32))
    (Host.powf (F := Ideal) (φ := .f32) (broadcastInDim S32 ![] bcast_S_S32 (constant (F := Ideal) S_ .f32 0x461C4000#32))
      (mulf (F := Ideal) (φ := .f32) (sitofp (F := Ideal) .f32 (iotaInDim S32 32 0))
        (broadcastInDim S32 ![] bcast_S_S32 (constant (F := Ideal) S_ .f32 0x3D000000#32))))

/-- The angles of all positions, the samples' positions being `y`. -/
def angs (y : S512.Idx → BitVec 32) : S16896x32.Idx → EReal :=
  mulf (F := Ideal) (φ := .f32) (broadcastInDim S16896x32 ![0, 1] bcast_S16896x1_S16896x32_0_1
      (broadcastInDim S16896x1 ![0] bcast_S16896_S16896x1_0 (sitofp (F := Ideal) .f32
        (concatenate S16896 0 [⟨S16384, iotaInDim S16384 32 0⟩, ⟨S512, y⟩] concatenates_S16384_S512_S16896_d0))))
    (broadcastInDim S16896x32 ![0, 1] bcast_S1x32_S16896x32_0_1 (broadcastInDim S1x32 ![1] bcast_S32_S1x32_1
      freq))

theorem angs_apply (y : S512.Idx → BitVec 32) (r : Fin 16896) (d : Fin 32) (R : Fin 16384) (hR : R.val = r.val) :
    angs y (ix2 r d) = angle R d := by
  have h : r.val < 16384 := by omega
  obtain rfl : R = ⟨r.val, h⟩ := Fin.ext hR
  unfold angle
  pointwise [angs, freq, h]

/-- The table of cosines. -/
def tabC (a : S16896x32.Idx → EReal) : S16896x128.Idx → EReal :=
  concatenate S16896x128 1 [⟨S16896x32, Host.cos (F := Ideal) (φ := .f32) a⟩, ⟨S16896x32, Host.cos (F := Ideal) (φ := .f32) a⟩,
    ⟨S16896x32, Host.cos (F := Ideal) (φ := .f32) a⟩, ⟨S16896x32, Host.cos (F := Ideal) (φ := .f32) a⟩]
    concatenates_S16896x32_S16896x32_S16896x32_S16896x32_S16896x128_d1

/-- The table of sines, the first half of each run of 64 columns negated. -/
def tabS (a : S16896x32.Idx → EReal) : S16896x128.Idx → EReal :=
  concatenate S16896x128 1 [⟨S16896x32, Host.negf (F := Ideal) (φ := .f32) (Host.sin (F := Ideal) (φ := .f32) a)⟩,
    ⟨S16896x32, Host.sin (F := Ideal) (φ := .f32) a⟩,
    ⟨S16896x32, Host.negf (F := Ideal) (φ := .f32) (Host.sin (F := Ideal) (φ := .f32) a)⟩,
    ⟨S16896x32, Host.sin (F := Ideal) (φ := .f32) a⟩]
    concatenates_S16896x32_S16896x32_S16896x32_S16896x32_S16896x128_d1

/-- Four tables side by side, one entry. -/
theorem four_apply (f : Fin 4 → S16896x32.Idx → EReal) (r : Fin 16896) (e : Fin 128) :
    concatenate S16896x128 1 [⟨S16896x32, f 0⟩, ⟨S16896x32, f 1⟩, ⟨S16896x32, f 2⟩, ⟨S16896x32, f 3⟩]
      concatenates_S16896x32_S16896x32_S16896x32_S16896x32_S16896x128_d1 (ix2 r e)
      = f ⟨e.val / 32, by omega⟩ (ix2 r ⟨e.val % 32, by omega⟩) := by
  refine (concatenate_ofFn_apply (t := S16896x128) (s₁ := S16896x32) (N := 4) 1 f
    concatenates_S16896x32_S16896x32_S16896x32_S16896x32_S16896x128_d1 rfl 32 rfl (ix2 r e)
    ⟨e.val / 32, by omega⟩ rfl (ix2 r ⟨e.val % 32, by omega⟩) rfl ?_)
  intro b hb
  match b with
  | ⟨0, _⟩ => rfl
  | ⟨1, _⟩ => exact absurd rfl hb

theorem tabC_apply (a : S16896x32.Idx → EReal) (r : Fin 16896) (e : Fin 128) :
    tabC a (ix2 r e) = Ideal.cos (a (ix2 r ⟨e.val % 32, by omega⟩)) :=
  four_apply (fun _ => Host.cos (F := Ideal) (φ := .f32) a) r e

theorem tabS_apply (a : S16896x32.Idx → EReal) (r : Fin 16896) (e : Fin 128) :
    tabS a (ix2 r e) = if e.val % 64 < 32 then - Ideal.sin (a (ix2 r ⟨e.val % 32, by omega⟩))
      else Ideal.sin (a (ix2 r ⟨e.val % 32, by omega⟩)) := by
  refine (four_apply ![Host.negf (F := Ideal) (φ := .f32) (Host.sin (F := Ideal) (φ := .f32) a),
    Host.sin (F := Ideal) (φ := .f32) a, Host.negf (F := Ideal) (φ := .f32) (Host.sin (F := Ideal) (φ := .f32) a),
    Host.sin (F := Ideal) (φ := .f32) a] r e).trans ?_
  have he := e.isLt
  generalize hn : (⟨e.val / 32, by omega⟩ : Fin 4) = n
  have hn' : e.val / 32 = n.val := congrArg Fin.val hn
  match n, hn' with
  | 0, h => have h : e.val / 32 = 0 := h; exact (if_pos (by omega)).symm
  | 1, h => have h : e.val / 32 = 1 := h; exact (if_neg (by omega)).symm
  | 2, h => have h : e.val / 32 = 2 := h; exact (if_pos (by omega)).symm
  | 3, h => have h : e.val / 32 = 3 := h; exact (if_neg (by omega)).symm

theorem after_two (l k : List (HloOp τ sig (Elt Ideal))) (W) (b) :
    StableHlo.after (l ++ k) W b = StableHlo.after k (StableHlo.after l W) b := by
  induction l generalizing W with
  | nil => rfl
  | cons op l ih => exact ih _

/-- What the host's lines before the samples' positions leave. -/
abbrev early (c : Dev nD) := StableHlo.after (hostOps0_1 (F := Ideal)) (StableHlo.after (hostOps0 (F := Ideal)) fun b => m (c, b))

theorem V_eq (c : Dev nD) (b : Ref sig .tc) : V m c b = StableHlo.after (hostOps0_2 (F := Ideal)) (early m c) b := by
  show StableHlo.after (hostOps0 ++ (hostOps0_1 ++ (hostOps0_2 ++ []))) _ _ = _
  rw [after_two, after_two, List.append_nil]

theorem early_v6 (c : Dev nD) : early m c (Proc.devRef .tc main_v6) = freq := by
  unfold early
  after_results
  rfl

theorem early_v7 (c : Dev nD) : early m c (Proc.devRef .tc main_v7) = (iotaInDim S16384 32 0 : S16384.Idx → BitVec 32) := by
  unfold early
  after_results

theorem four_congr (a b c d a' b' c' d' : S16896x32.Idx → EReal) (ha : a = a') (hb : b = b') (hc : c = c') (hd : d = d') :
    concatenate S16896x128 1 [⟨S16896x32, a⟩, ⟨S16896x32, b⟩, ⟨S16896x32, c⟩, ⟨S16896x32, d⟩]
      concatenates_S16896x32_S16896x32_S16896x32_S16896x32_S16896x128_d1
      = concatenate S16896x128 1 [⟨S16896x32, a'⟩, ⟨S16896x32, b'⟩, ⟨S16896x32, c'⟩, ⟨S16896x32, d'⟩]
        concatenates_S16896x32_S16896x32_S16896x32_S16896x32_S16896x128_d1 := by
  subst ha hb hc hd
  rfl

theorem late_eq (W : Valuation τ sig (Elt Ideal)) (h6 : W (Proc.devRef .tc main_v6) = freq)
    (h7 : W (Proc.devRef .tc main_v7) = (iotaInDim S16384 32 0 : S16384.Idx → BitVec 32)) :
    ∃ y, StableHlo.after (hostOps0_2 (F := Ideal)) W (Proc.devRef .tc main_v21) = tabC (angs y)
      ∧ StableHlo.after (hostOps0_2 (F := Ideal)) W (Proc.devRef .tc main_v24) = tabS (angs y) := by
  refine ⟨addi (broadcastInDim S512 ![] bcast_S_S512 (constantI S_ 32 16384#32)) (W (Proc.devRef .tc main_v9)), ?_, ?_⟩
  · unfold angs
    rw [← h6, ← h7]
    after_results
    refine four_congr _ _ _ _ _ _ _ _ ?_ ?_ ?_ ?_
    · change (_ : Valuation τ sig (Elt Ideal)) (Proc.devRef .tc main_v19) = _
      refine (congrFun (StableHlo.after_nil _).symm _).trans ?_
      after_results
    · change (_ : Valuation τ sig (Elt Ideal)) (Proc.devRef .tc main_v19) = _
      refine (congrFun (StableHlo.after_nil _).symm _).trans ?_
      after_results
    · change (_ : Valuation τ sig (Elt Ideal)) (Proc.devRef .tc main_v19) = _
      refine (congrFun (StableHlo.after_nil _).symm _).trans ?_
      after_results
    · change (_ : Valuation τ sig (Elt Ideal)) (Proc.devRef .tc main_v19) = _
      refine (congrFun (StableHlo.after_nil _).symm _).trans ?_
      after_results
  · unfold angs
    rw [← h6, ← h7]
    after_results
    refine four_congr _ _ _ _ _ _ _ _ ?_ ?_ ?_ ?_
    · change (_ : Valuation τ sig (Elt Ideal)) (Proc.devRef .tc main_v22) = _
      refine (congrFun (StableHlo.after_nil _).symm _).trans ?_
      after_results
    · change (_ : Valuation τ sig (Elt Ideal)) (Proc.devRef .tc main_v20) = _
      refine (congrFun (StableHlo.after_nil _).symm _).trans ?_
      after_results
    · change (_ : Valuation τ sig (Elt Ideal)) (Proc.devRef .tc main_v23) = _
      refine (congrFun (StableHlo.after_nil _).symm _).trans ?_
      after_results
    · change (_ : Valuation τ sig (Elt Ideal)) (Proc.devRef .tc main_v20) = _
      refine (congrFun (StableHlo.after_nil _).symm _).trans ?_
      after_results

theorem tables_eq (c : Dev nD) : ∃ y, V m c main_v21 = tabC (angs y) ∧ V m c main_v24 = tabS (angs y) := by
  rw [V_eq, V_eq]
  exact late_eq _ (early_v6 m c) (early_v7 m c)

theorem cos_eq (c : Dev nD) (r : Fin 16896) (e : Fin 128) (R : Fin 16384) (d : Fin 32) (hR : R.val = r.val)
    (hd : d.val = e.val % 32) : V m c main_v21 (ix2 r e) = Ideal.cos (angle R d) := by
  obtain ⟨y, h, -⟩ := tables_eq m c
  obtain rfl : d = ⟨e.val % 32, Nat.mod_lt _ (by decide)⟩ := Fin.ext hd
  rw [h, tabC_apply, angs_apply y r _ R hR]

theorem sin_eq (c : Dev nD) (r : Fin 16896) (e : Fin 128) (R : Fin 16384) (d : Fin 32) (hR : R.val = r.val)
    (hd : d.val = e.val % 32) (n : ℕ) (hn : n % 64 = e.val % 64) :
    V m c main_v24 (ix2 r e) = if n % 64 < 32 then - Ideal.sin (angle R d) else Ideal.sin (angle R d) := by
  obtain ⟨y, -, h⟩ := tables_eq m c
  obtain rfl : d = ⟨e.val % 32, Nat.mod_lt _ (by decide)⟩ := Fin.ext hd
  rw [h, tabS_apply, angs_apply y r _ R hR, hn]

theorem sinks_eq (c : Dev nD) (h : Fin 16) : V m c main_v25 (ix1 h) = m ((c.tc : Thread nD τ).loc main_arg1) (ix2 0 h) := by
  have e : V m c main_v25 = shapeCast S16 (m ((c.tc : Thread nD τ).loc main_arg1)) shapeCasts_S1x16_S16 := by
    have h1 : early m c (Proc.devRef .tc main_arg1) = m ((c.tc : Thread nD τ).loc main_arg1) := by
      unfold early
      after_results
    rw [V_eq, ← h1]
    generalize early m c = W
    after_results
    rfl
  rw [e]
  generalize m ((c.tc : Thread nD τ).loc main_arg1) = b
  pointwise []

/-! ## The blocks of a point -/

theorem win0_facts : ∀ t : Fin cfg0.N, win0_0.index t (0 : Fin 1) = 0 := by
  decide +kernel

theorem win1_facts : ∀ t : Fin cfg0.N, win0_1.index t (0 : Fin 2) = t.val ∧ win0_1.index t (1 : Fin 2) = 4 := by
  decide +kernel

theorem win2_facts : ∀ t : Fin cfg0.N, win0_2.index t (0 : Fin 2) = t.val ∧ win0_2.index t (1 : Fin 2) = 28 := by
  decide +kernel

theorem win3_facts : ∀ t : Fin cfg0.N, win0_3.index t (0 : Fin 2) = t.val - 1 ∧ win0_3.index t (1 : Fin 2) = 28 := by
  decide +kernel

theorem win4_facts : ∀ t : Fin cfg0.N, win0_4.index t (0 : Fin 2) = t.val ∧ win0_4.index t (1 : Fin 2) = 29 := by
  decide +kernel

theorem win5_facts : ∀ t : Fin cfg0.N, win0_5.index t (0 : Fin 2) = t.val - 1 ∧ win0_5.index t (1 : Fin 2) = 29 := by
  decide +kernel

theorem win6_facts : ∀ t : Fin cfg0.N, win0_6.index t (0 : Fin 2) = t.val ∧ win0_6.index t (1 : Fin 2) = 0 := by
  decide +kernel

theorem win7_facts : ∀ t : Fin cfg0.N, win0_7.index t (0 : Fin 2) = t.val ∧ win0_7.index t (1 : Fin 2) = 0 := by
  decide +kernel

theorem win8_facts : ∀ t : Fin cfg0.N, win0_8.index t (0 : Fin 2) = t.val - 1 ∧ win0_8.index t (1 : Fin 2) = 0 := by
  decide +kernel

theorem win9_facts : ∀ t : Fin cfg0.N, win0_9.index t (0 : Fin 2) = t.val - 1 ∧ win0_9.index t (1 : Fin 2) = 0 := by
  decide +kernel

theorem win10_facts : ∀ t : Fin cfg0.N, win0_10.index t (0 : Fin 2) = t.val ∧ win0_10.index t (1 : Fin 2) = 0 := by
  decide +kernel

theorem win11_facts : ∀ t : Fin cfg0.N, win0_11.index t (0 : Fin 2) = 0 ∧ win0_11.index t (1 : Fin 2) = 0
    ∧ ((cfg0.win 11).flush t = true ↔ t.val = 127) := by
  decide +kernel

theorem win12_facts : ∀ t : Fin cfg0.N, win0_12.index t (0 : Fin 2) = 0 ∧ win0_12.index t (1 : Fin 2) = 0
    ∧ ((cfg0.win 12).flush t = true ↔ t.val = 127) := by
  decide +kernel

theorem q_read (c : Dev nD) (t : Fin cfg0.N) (p : Fin 128) (k : Fin 1024) (r : Fin 16896) (j : Fin 7680)
    (hr : r.val = t.val * 128 + p.val) (hj : j.val = 4096 + k.val) :
    X0_1 m c t (ix2 p k) = m ((c.tc : Thread nD τ).loc main_arg0) (ix2 r j) := by
  rw [← V_main_arg0 m c]
  unfold X0_1 Pipeline.Window.fill
  rw [dif_pos (moved0_1 t (ix2 p k))]
  show V m c main_arg0 ((win0_1.rect t).idx _) = V m c main_arg0 (ix2 r j)
  refine congrArg _ (funext fun a => Fin.ext ?_)
  obtain ⟨e0, e1⟩ := win1_facts t
  match a with
  | ⟨0, _⟩ => show win0_1.index t (0 : Fin 2) * 128 + 1 * p.val = r.val; omega
  | ⟨1, _⟩ => show win0_1.index t (1 : Fin 2) * 1024 + 1 * k.val = j.val; omega

theorem k_read (c : Dev nD) (t : Fin cfg0.N) (p : Fin 128) (k : Fin 256) (r : Fin 16896) (j : Fin 7680)
    (hr : r.val = t.val * 128 + p.val) (hj : j.val = 7168 + k.val) :
    iblk m c 2 t (ix2 p k) = m ((c.tc : Thread nD τ).loc main_arg0) (ix2 r j) := by
  rw [← V_main_arg0 m c]
  show V m c main_arg0 ((win0_2.rect t).idx (ix2 p k)) = V m c main_arg0 (ix2 r j)
  refine congrArg _ (funext fun a => Fin.ext ?_)
  obtain ⟨e0, e1⟩ := win2_facts t
  match a with
  | ⟨0, _⟩ => show win0_2.index t (0 : Fin 2) * 128 + 1 * p.val = r.val; omega
  | ⟨1, _⟩ => show win0_2.index t (1 : Fin 2) * 256 + 1 * k.val = j.val; omega

theorem k_prev (c : Dev nD) (t : Fin cfg0.N) (p : Fin 128) (k : Fin 256) (r : Fin 16896) (j : Fin 7680)
    (hr : r.val = (t.val - 1) * 128 + p.val) (hj : j.val = 7168 + k.val) :
    iblk m c 3 t (ix2 p k) = m ((c.tc : Thread nD τ).loc main_arg0) (ix2 r j) := by
  rw [← V_main_arg0 m c]
  show V m c main_arg0 ((win0_3.rect t).idx (ix2 p k)) = V m c main_arg0 (ix2 r j)
  refine congrArg _ (funext fun a => Fin.ext ?_)
  obtain ⟨e0, e1⟩ := win3_facts t
  match a with
  | ⟨0, _⟩ => show win0_3.index t (0 : Fin 2) * 128 + 1 * p.val = r.val; omega
  | ⟨1, _⟩ => show win0_3.index t (1 : Fin 2) * 256 + 1 * k.val = j.val; omega

theorem v_read (c : Dev nD) (t : Fin cfg0.N) (p : Fin 128) (k : Fin 256) (r : Fin 16896) (j : Fin 7680)
    (hr : r.val = t.val * 128 + p.val) (hj : j.val = 7424 + k.val) :
    iblk m c 4 t (ix2 p k) = m ((c.tc : Thread nD τ).loc main_arg0) (ix2 r j) := by
  rw [← V_main_arg0 m c]
  show V m c main_arg0 ((win0_4.rect t).idx (ix2 p k)) = V m c main_arg0 (ix2 r j)
  refine congrArg _ (funext fun a => Fin.ext ?_)
  obtain ⟨e0, e1⟩ := win4_facts t
  match a with
  | ⟨0, _⟩ => show win0_4.index t (0 : Fin 2) * 128 + 1 * p.val = r.val; omega
  | ⟨1, _⟩ => show win0_4.index t (1 : Fin 2) * 256 + 1 * k.val = j.val; omega

theorem v_prev (c : Dev nD) (t : Fin cfg0.N) (p : Fin 128) (k : Fin 256) (r : Fin 16896) (j : Fin 7680)
    (hr : r.val = (t.val - 1) * 128 + p.val) (hj : j.val = 7424 + k.val) :
    iblk m c 5 t (ix2 p k) = m ((c.tc : Thread nD τ).loc main_arg0) (ix2 r j) := by
  rw [← V_main_arg0 m c]
  show V m c main_arg0 ((win0_5.rect t).idx (ix2 p k)) = V m c main_arg0 (ix2 r j)
  refine congrArg _ (funext fun a => Fin.ext ?_)
  obtain ⟨e0, e1⟩ := win5_facts t
  match a with
  | ⟨0, _⟩ => show win0_5.index t (0 : Fin 2) * 128 + 1 * p.val = r.val; omega
  | ⟨1, _⟩ => show win0_5.index t (1 : Fin 2) * 256 + 1 * k.val = j.val; omega

theorem c_read (c : Dev nD) (t : Fin cfg0.N) (p : Fin 128) (k : Fin 128) (r : Fin 16896) (j : Fin 128)
    (hr : r.val = t.val * 128 + p.val) (hj : j.val = k.val) :
    iblk m c 6 t (ix2 p k) = V m c main_v21 (ix2 r j) := by
  show V m c main_v21 ((win0_6.rect t).idx (ix2 p k)) = V m c main_v21 (ix2 r j)
  refine congrArg _ (funext fun a => Fin.ext ?_)
  obtain ⟨e0, e1⟩ := win6_facts t
  match a with
  | ⟨0, _⟩ => show win0_6.index t (0 : Fin 2) * 128 + 1 * p.val = r.val; omega
  | ⟨1, _⟩ => show win0_6.index t (1 : Fin 2) * 128 + 1 * k.val = j.val; omega

theorem s_read (c : Dev nD) (t : Fin cfg0.N) (p : Fin 128) (k : Fin 128) (r : Fin 16896) (j : Fin 128)
    (hr : r.val = t.val * 128 + p.val) (hj : j.val = k.val) :
    iblk m c 7 t (ix2 p k) = V m c main_v24 (ix2 r j) := by
  show V m c main_v24 ((win0_7.rect t).idx (ix2 p k)) = V m c main_v24 (ix2 r j)
  refine congrArg _ (funext fun a => Fin.ext ?_)
  obtain ⟨e0, e1⟩ := win7_facts t
  match a with
  | ⟨0, _⟩ => show win0_7.index t (0 : Fin 2) * 128 + 1 * p.val = r.val; omega
  | ⟨1, _⟩ => show win0_7.index t (1 : Fin 2) * 128 + 1 * k.val = j.val; omega

theorem c_prev (c : Dev nD) (t : Fin cfg0.N) (p : Fin 128) (k : Fin 128) (r : Fin 16896) (j : Fin 128)
    (hr : r.val = (t.val - 1) * 128 + p.val) (hj : j.val = k.val) :
    iblk m c 8 t (ix2 p k) = V m c main_v21 (ix2 r j) := by
  show V m c main_v21 ((win0_8.rect t).idx (ix2 p k)) = V m c main_v21 (ix2 r j)
  refine congrArg _ (funext fun a => Fin.ext ?_)
  obtain ⟨e0, e1⟩ := win8_facts t
  match a with
  | ⟨0, _⟩ => show win0_8.index t (0 : Fin 2) * 128 + 1 * p.val = r.val; omega
  | ⟨1, _⟩ => show win0_8.index t (1 : Fin 2) * 128 + 1 * k.val = j.val; omega

theorem s_prev (c : Dev nD) (t : Fin cfg0.N) (p : Fin 128) (k : Fin 128) (r : Fin 16896) (j : Fin 128)
    (hr : r.val = (t.val - 1) * 128 + p.val) (hj : j.val = k.val) :
    iblk m c 9 t (ix2 p k) = V m c main_v24 (ix2 r j) := by
  show V m c main_v24 ((win0_9.rect t).idx (ix2 p k)) = V m c main_v24 (ix2 r j)
  refine congrArg _ (funext fun a => Fin.ext ?_)
  obtain ⟨e0, e1⟩ := win9_facts t
  match a with
  | ⟨0, _⟩ => show win0_9.index t (0 : Fin 2) * 128 + 1 * p.val = r.val; omega
  | ⟨1, _⟩ => show win0_9.index t (1 : Fin 2) * 128 + 1 * k.val = j.val; omega

theorem sink_read (c : Dev nD) (t : Fin cfg0.N) (h : Fin 16) :
    iblk m c 0 t (ix1 h) = m ((c.tc : Thread nD τ).loc main_arg1) (ix2 0 h) := by
  rw [← sinks_eq m c h]
  show V m c main_v25 ((win0_0.rect t).idx (ix1 h)) = V m c main_v25 (ix1 h)
  refine congrArg _ (funext fun a => Fin.ext ?_)
  have e0 := win0_facts t
  match a with
  | ⟨0, _⟩ => show win0_0.index t (0 : Fin 1) * 16 + 1 * h.val = h.val; omega

/-! ## The rows -/

theorem lt_points (t : Fin cfg0.N) : t.val < 128 := by
  have h : t.val < grid0.N := t.isLt
  rw [N_0] at h
  exact h

/-- A point's queries, scaled and turned. -/
theorem query_row (c : Dev nD) (t : Fin cfg0.N) (p : Fin 128) (e : Fin 1024) (R : Fin 16384) (hR : R.val = t.val * 128 + p.val) :
    k0_pay3 (F := Ideal) (X0_1 m c t) (iblk m c 6 t) (iblk m c 7 t) (ix2 p e)
      = query (m ((c.tc : Thread nD τ).loc main_arg0)) R e * eighth := by
  rw [query_apply]
  refine congrArg (· * eighth) (turn_eq _ _ _ _ R e _ _ _ _ _ ?_ ?_ ?_ ?_ ?_)
  · exact q_read m c t p e _ _ hR rfl
  · exact fun h => q_read m c t p _ _ _ hR (by show 4096 + e.val + 32 = 4096 + (e.val + 1024 - 992) % 1024; omega)
  · exact fun h => q_read m c t p _ _ _ hR (by show 4096 + e.val - 32 = 4096 + (e.val + 1024 - 32) % 1024; omega)
  · exact (c_read m c t p _ ⟨R.val, by omega⟩ _ hR rfl).trans
      (cos_eq m c _ _ R _ rfl (by show e.val % 32 = e.val % 128 % 32; omega))
  · exact (s_read m c t p _ ⟨R.val, by omega⟩ _ hR rfl).trans
      (sin_eq m c _ _ R _ rfl (by show e.val % 32 = e.val % 128 % 32; omega) _ (by show e.val % 64 = e.val % 128 % 64; omega))

/-- A point's own keys, turned. -/
theorem key_row (c : Dev nD) (t : Fin cfg0.N) (p : Fin 128) (e : Fin 256) (R : Fin 16384) (hR : R.val = t.val * 128 + p.val) :
    turned (iblk m c 2 t) (iblk m c 6 t) (iblk m c 7 t) (ix2 p e) = key (m ((c.tc : Thread nD τ).loc main_arg0)) R e := by
  rw [turned_apply]
  refine turn_eq _ _ _ _ R e _ _ _ _ _ ?_ ?_ ?_ ?_ ?_
  · exact k_read m c t p e _ _ hR rfl
  · exact fun h => k_read m c t p _ _ _ hR (by show 7168 + e.val + 32 = 7168 + (e.val + 256 - 224) % 256; omega)
  · exact fun h => k_read m c t p _ _ _ hR (by show 7168 + e.val - 32 = 7168 + (e.val + 256 - 32) % 256; omega)
  · exact (c_read m c t p _ ⟨R.val, by omega⟩ _ hR rfl).trans
      (cos_eq m c _ _ R _ rfl (by show e.val % 32 = e.val % 128 % 32; omega))
  · exact (s_read m c t p _ ⟨R.val, by omega⟩ _ hR rfl).trans
      (sin_eq m c _ _ R _ rfl (by show e.val % 32 = e.val % 128 % 32; omega) _ (by show e.val % 64 = e.val % 128 % 64; omega))

/-- The keys of the block before, turned. -/
theorem key_row' (c : Dev nD) (t : Fin cfg0.N) (p : Fin 128) (e : Fin 256) (R : Fin 16384)
    (hR : R.val = (t.val - 1) * 128 + p.val) :
    turned (iblk m c 3 t) (iblk m c 8 t) (iblk m c 9 t) (ix2 p e) = key (m ((c.tc : Thread nD τ).loc main_arg0)) R e := by
  rw [turned_apply]
  refine turn_eq _ _ _ _ R e _ _ _ _ _ ?_ ?_ ?_ ?_ ?_
  · exact k_prev m c t p e _ _ hR rfl
  · exact fun h => k_prev m c t p _ _ _ hR (by show 7168 + e.val + 32 = 7168 + (e.val + 256 - 224) % 256; omega)
  · exact fun h => k_prev m c t p _ _ _ hR (by show 7168 + e.val - 32 = 7168 + (e.val + 256 - 32) % 256; omega)
  · exact (c_prev m c t p _ ⟨R.val, by omega⟩ _ hR rfl).trans
      (cos_eq m c _ _ R _ rfl (by show e.val % 32 = e.val % 128 % 32; omega))
  · exact (s_prev m c t p _ ⟨R.val, by omega⟩ _ hR rfl).trans
      (sin_eq m c _ _ R _ rfl (by show e.val % 32 = e.val % 128 % 32; omega) _ (by show e.val % 64 = e.val % 128 % 64; omega))

/-- The staged keys: the block before, then the point's own. -/
theorem staged_row (c : Dev nD) (t : Fin cfg0.N) (j e : Fin 256) (R : Fin 16384) (hj : 0 < t.val ∨ 128 ≤ j.val)
    (hR : R.val + 128 = t.val * 128 + j.val) :
    k0_pay10 (F := Ideal) (k0_pay4 (F := Ideal) (iblk m c 2 t)) (k0_pay5 (F := Ideal) (iblk m c 2 t))
        (k0_pay6 (F := Ideal) (iblk m c 6 t)) (k0_pay7 (F := Ideal) (iblk m c 7 t))
        (iblk m c 3 t) (iblk m c 8 t) (iblk m c 9 t) (ix2 j e) = key (m ((c.tc : Thread nD τ).loc main_arg0)) R e := by
  rw [staged_apply]
  by_cases h : j.val < 128
  · rw [dif_pos h]; exact key_row' m c t _ e R (by show R.val = (t.val - 1) * 128 + j.val; omega)
  · rw [dif_neg h]; exact key_row m c t _ e R (by show R.val = t.val * 128 + (j.val - 128); omega)

/-- The staged values: the block before, then the point's own. -/
theorem values_row (c : Dev nD) (t : Fin cfg0.N) (j e : Fin 256) (R : Fin 16384) (hj : 0 < t.val ∨ 128 ≤ j.val)
    (hR : R.val + 128 = t.val * 128 + j.val) :
    k0_pay11 (F := Ideal) (iblk m c 5 t) (iblk m c 4 t) (ix2 j e) = value (m ((c.tc : Thread nD τ).loc main_arg0)) R e := by
  rw [values_apply]
  by_cases h : j.val < 128
  · rw [dif_pos h]; exact v_prev m c t _ e _ _ (by show R.val = (t.val - 1) * 128 + j.val; omega) rfl
  · rw [dif_neg h]; exact v_read m c t _ e _ _ (by show R.val = t.val * 128 + (j.val - 128); omega) rfl

/-- The attention of the arguments on core `c`. -/
abbrev rows (c : Dev nD) : S16384x1024.Idx → EReal :=
  attn (m ((c.tc : Thread nD τ).loc main_arg0)) (m ((c.tc : Thread nD τ).loc main_arg1))

/-- One entry of a point's block, at its place. -/
theorem rows_apply (c : Dev nD) (t : Fin cfg0.N) (p : Fin 128) (r : Fin 16384) (j : Fin 1024)
    (hr : r.val = t.val * 128 + p.val) : (outsAt0 m c t).1 (ix2 p j) = rows m c (ix2 r j) := by
  have ht := lt_points t
  have hp := p.isLt
  have hj := j.isLt
  have hq := fun e => query_row m c t p e r hr
  have hk := fun i e R => staged_row m c t i e R
  have hv := fun i e R => values_row m c t i e R
  rw [out10]
  generalize k0_pay3 (F := Ideal) (X0_1 m c t) (iblk m c 6 t) (iblk m c 7 t) = q at hq ⊢
  generalize k0_pay10 (F := Ideal) _ _ _ _ _ _ _ = k at hk ⊢
  generalize k0_pay11 (F := Ideal) _ _ = v at hv ⊢
  rw [blk_apply _ _ _ _ _ ⟨j.val / 64, by omega⟩ p ⟨j.val % 64, by omega⟩ j (by show j.val = j.val / 64 * 64 + j.val % 64; omega),
    heads_apply, sink_read]
  show _ = soft (score _ ⟨j.val / 64, by omega⟩ r) (m ((c.tc : Thread nD τ).loc main_arg1) (ix2 0 ⟨j.val / 64, by omega⟩))
    (fun s => value _ s ⟨j.val / 64 / 4 * 64 + j.val % 64, by omega⟩)
  refine soft_meet (Finset.univ.filter fun i : Fin 256 => (p.val < i.val ∧ i.val ≤ p.val + 128) ∧ (0 < t.val ∨ 128 ≤ i.val))
    (fun i => ⟨t.val * 128 + i.val - 128, by omega⟩) ?_ _ _ _ _ _ ?_ ?_ ?_
  · intro a ha b hb e
    have ha' := (Finset.mem_filter.1 ha).2
    have hb' := (Finset.mem_filter.1 hb).2
    have e' : t.val * 128 + a.val - 128 = t.val * 128 + b.val - 128 := congrArg Fin.val e
    exact Fin.ext (by omega)
  · intro i hi
    have hi' := (Finset.mem_filter.1 hi).2
    have hR : t.val * 128 + i.val - 128 + 128 = t.val * 128 + i.val := by omega
    refine ⟨?_, hv i _ ⟨t.val * 128 + i.val - 128, by omega⟩ hi'.2 hR⟩
    rw [seen_apply, select_if, if_pos hi']
    unfold score
    rw [if_pos (by
      show t.val * 128 + i.val - 128 ≤ r.val ∧ r.val < t.val * 128 + i.val - 128 + 128
      omega), sum_mul_of _ _ (by rw [eighth_eq]; exact EReal.coe_nonneg.2 (by norm_num)) (by rw [eighth_eq]; exact EReal.coe_ne_top _)]
    refine Finset.sum_congr rfl fun e _ => ?_
    rw [hq, hk i _ ⟨t.val * 128 + i.val - 128, by omega⟩ hi'.2 hR, mul_right_comm]
  · intro i hi
    have hi' := fun h => hi (Finset.mem_filter.2 ⟨Finset.mem_univ i, h⟩)
    rw [seen_apply, select_if, if_neg hi']
  · intro s hs
    unfold score
    refine if_neg fun h => ?_
    refine hs ⟨s.val + 128 - t.val * 128, by omega⟩ (Finset.mem_filter.2 ⟨Finset.mem_univ _, ?_⟩) (Fin.ext ?_)
    · show (p.val < s.val + 128 - t.val * 128 ∧ s.val + 128 - t.val * 128 ≤ p.val + 128)
        ∧ (0 < t.val ∨ 128 ≤ s.val + 128 - t.val * 128)
      omega
    · show t.val * 128 + (s.val + 128 - t.val * 128) - 128 = s.val
      omega

theorem flushed10_eq (c : Dev nD) (t : Fin cfg0.N) :
    (dats m 0 c).flushed 10 t = ((cfg0.win 10).blk t).view.read (Elt Ideal) (rows m c) := by
  rw [Value.flushed10]
  funext y
  obtain ⟨e0, e1⟩ := win10_facts t
  have key (y : S128x1024.Idx) (i : S16384x1024.Idx) (hr : (i 0).val = t.val * 128 + (y 0).val) (hj : (i 1).val = (y 1).val) :
      (outsAt0 m c t).1 y = rows m c i := by
    have h1 : (y 1 : Fin 1024) = (i 1 : Fin 1024) := Fin.ext (by omega)
    exact (congrArg (outsAt0 m c t).1 (eq_ix2 (n0 := 128) (n1 := 1024) y)).trans
      ((rows_apply m c t (y 0) (i 0) (y 1) (by omega)).trans
        (congrArg (rows m c) ((congrArg (ix2 (i 0)) h1).trans (eq_ix2 (n0 := 16384) (n1 := 1024) i).symm)))
  generalize rows m c = R at key ⊢
  refine key y ((win0_10.rect t).idx y) ?_ ?_
  · show win0_10.index t (0 : Fin 2) * 128 + 1 * (y 0).val = _; omega
  · show win0_10.index t (1 : Fin 2) * 1024 + 1 * (y 1).val = _; omega

theorem cover10 (i : S16384x1024.Idx) :
    ∃ t : Fin cfg0.N, (cfg0.win 10).flush t = true ∧ i ∈ ((cfg0.win 10).blk t).view.set := by
  have hi : (i 0).val < 16384 := (i 0).isLt
  have hi1 : (i 1).val < 1024 := (i 1).isLt
  obtain ⟨t, ht⟩ : ∃ t : Fin cfg0.N, t.val = (i 0).val / 128 := ⟨⟨(i 0).val / 128, by show _ < grid0.N; rw [N_0]; omega⟩, rfl⟩
  obtain ⟨e0, e1⟩ := win10_facts t
  refine ⟨t, flush0_10 t, ?_⟩
  show i ∈ ((View.whole main_v26_0).slice (win0_10.rect t)).set
  rw [View.set_slice_whole, Rect.mem_set_unit]
  intro a
  match a with
  | ⟨0, _⟩ => exact ⟨by show win0_10.index t (0 : Fin 2) * 128 ≤ (i 0).val; omega,
      by show (i 0).val < win0_10.index t (0 : Fin 2) * 128 + 128; omega⟩
  | ⟨1, _⟩ => exact ⟨by show win0_10.index t (1 : Fin 2) * 1024 ≤ (i 1).val; omega,
      by show (i 1).val < win0_10.index t (1 : Fin 2) * 1024 + 1024; omega⟩

theorem flushed11_eq (c : Dev nD) (t : Fin cfg0.N) (hf : (cfg0.win 11).flush t = true) :
    (dats m 0 c).flushed 11 t
      = ((cfg0.win 11).blk t).view.read (Elt Ideal) (keys (m ((c.tc : Thread nD τ).loc main_arg0))) := by
  rw [Value.flushed11, out11]
  funext y
  obtain ⟨e0, e1, e2⟩ := win11_facts t
  have ht := e2.1 hf
  show turned (iblk m c 2 t) (iblk m c 6 t) (iblk m c 7 t) y = keys (m ((c.tc : Thread nD τ).loc main_arg0)) ((win0_11.rect t).idx y)
  have hr : ((win0_11.rect t).idx y 0).val = win0_11.index t (0 : Fin 2) * 128 + 1 * (y 0).val := rfl
  have hj : ((win0_11.rect t).idx y 1).val = win0_11.index t (1 : Fin 2) * 256 + 1 * (y 1).val := rfl
  generalize (win0_11.rect t).idx y = i at hr hj
  rw [e0] at hr
  rw [e1] at hj
  have h0 : (y 0 : Fin 128) = (i 0 : Fin 128) := Fin.ext (by omega)
  have h1 : (y 1 : Fin 256) = (i 1 : Fin 256) := Fin.ext (by omega)
  obtain rfl : y = i := (eq_ix2 (n0 := 128) (n1 := 256) y).trans
    ((congrArg₂ ix2 h0 h1).trans (eq_ix2 (n0 := 128) (n1 := 256) i).symm)
  obtain ⟨p, e, rfl⟩ : ∃ p e, y = ix2 p e := ⟨_, _, eq_ix2 (n0 := 128) (n1 := 256) y⟩
  exact key_row m c t p e _ (by show 16256 + p.val = _; omega)

theorem cover11 (i : S128x256.Idx) :
    ∃ t : Fin cfg0.N, (cfg0.win 11).flush t = true ∧ i ∈ ((cfg0.win 11).blk t).view.set := by
  have hi : (i 0).val < 128 := (i 0).isLt
  have hi1 : (i 1).val < 256 := (i 1).isLt
  obtain ⟨t, ht⟩ : ∃ t : Fin cfg0.N, t.val = 127 := ⟨⟨127, by show _ < grid0.N; rw [N_0]; omega⟩, rfl⟩
  obtain ⟨e0, e1, e2⟩ := win11_facts t
  refine ⟨t, e2.2 ht, ?_⟩
  show i ∈ ((View.whole main_v26_1).slice (win0_11.rect t)).set
  rw [View.set_slice_whole, Rect.mem_set_unit]
  intro a
  match a with
  | ⟨0, _⟩ => exact ⟨by show win0_11.index t (0 : Fin 2) * 128 ≤ (i 0).val; omega,
      by show (i 0).val < win0_11.index t (0 : Fin 2) * 128 + 128; omega⟩
  | ⟨1, _⟩ => exact ⟨by show win0_11.index t (1 : Fin 2) * 256 ≤ (i 1).val; omega,
      by show (i 1).val < win0_11.index t (1 : Fin 2) * 256 + 256; omega⟩

theorem flushed12_eq (c : Dev nD) (t : Fin cfg0.N) (hf : (cfg0.win 12).flush t = true) :
    (dats m 0 c).flushed 12 t
      = ((cfg0.win 12).blk t).view.read (Elt Ideal) (values (m ((c.tc : Thread nD τ).loc main_arg0))) := by
  rw [Value.flushed12, out12]
  funext y
  obtain ⟨e0, e1, e2⟩ := win12_facts t
  have ht := e2.1 hf
  show k0_pay9 (F := Ideal) (iblk m c 4 t) y = values (m ((c.tc : Thread nD τ).loc main_arg0)) ((win0_12.rect t).idx y)
  have hr : ((win0_12.rect t).idx y 0).val = win0_12.index t (0 : Fin 2) * 128 + 1 * (y 0).val := rfl
  have hj : ((win0_12.rect t).idx y 1).val = win0_12.index t (1 : Fin 2) * 256 + 1 * (y 1).val := rfl
  generalize (win0_12.rect t).idx y = i at hr hj
  rw [e0] at hr
  rw [e1] at hj
  have h0 : (y 0 : Fin 128) = (i 0 : Fin 128) := Fin.ext (by omega)
  have h1 : (y 1 : Fin 256) = (i 1 : Fin 256) := Fin.ext (by omega)
  obtain rfl : y = i := (eq_ix2 (n0 := 128) (n1 := 256) y).trans
    ((congrArg₂ ix2 h0 h1).trans (eq_ix2 (n0 := 128) (n1 := 256) i).symm)
  obtain ⟨p, e, rfl⟩ : ∃ p e, y = ix2 p e := ⟨_, _, eq_ix2 (n0 := 128) (n1 := 256) y⟩
  exact (by pointwise [k0_pay9] : k0_pay9 (F := Ideal) (iblk m c 4 t) (ix2 p e) = iblk m c 4 t (ix2 p e)).trans
      (v_read m c t p e _ _ (by show 16256 + p.val = _; omega) rfl)

theorem cover12 (i : S128x256.Idx) :
    ∃ t : Fin cfg0.N, (cfg0.win 12).flush t = true ∧ i ∈ ((cfg0.win 12).blk t).view.set := by
  have hi : (i 0).val < 128 := (i 0).isLt
  have hi1 : (i 1).val < 256 := (i 1).isLt
  obtain ⟨t, ht⟩ : ∃ t : Fin cfg0.N, t.val = 127 := ⟨⟨127, by show _ < grid0.N; rw [N_0]; omega⟩, rfl⟩
  obtain ⟨e0, e1, e2⟩ := win12_facts t
  refine ⟨t, e2.2 ht, ?_⟩
  show i ∈ ((View.whole main_v26_2).slice (win0_12.rect t)).set
  rw [View.set_slice_whole, Rect.mem_set_unit]
  intro a
  match a with
  | ⟨0, _⟩ => exact ⟨by show win0_12.index t (0 : Fin 2) * 128 ≤ (i 0).val; omega,
      by show (i 0).val < win0_12.index t (0 : Fin 2) * 128 + 128; omega⟩
  | ⟨1, _⟩ => exact ⟨by show win0_12.index t (1 : Fin 2) * 256 ≤ (i 1).val; omega,
      by show (i 1).val < win0_12.index t (1 : Fin 2) * 256 + 256; omega⟩

end Cert.AttnKernelIdeal.Mix
-- ==== Proof.AttnHost.lean ====
/-
  The reference's attention over the prompt, read entry by entry: turned queries and keys, the band of pairs that attend, the
  softmax over all keys and the sink, and the weighted values.
-/
module

public import proofs.«01_k».proof.Defs
public import proofs.«01_k».proof.Proof.AttnLaws
public import proofs.«01_k».proof.Proof.Gen.AttnReferenceIdeal.Run
public import proofs.«01_k».proof.Proof.Gen.AttnReferenceIdeal.Read
public import Idealize.ShloMosaic.Lib.Pipeline.Value
public import Idealize.ShloMosaic.Lib.Pipeline.ValueKit.Tiles
public import Idealize.ShloMosaic.Lib.Pointwise
public import Idealize.ShloMosaic.Lib.ValueIdx
public import Idealize.ShloMosaic.PureOps.Ideal.Laws
public import Idealize.ShloMosaic.Lib.WordCmp
public import Idealize.ShloMosaic.Lib.KernelVsHost
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AttnReferenceIdeal.Mix

open Cert.AttnReferenceIdeal Cert.AttnReferenceIdeal.Gen Cert.AttnReferenceIdeal.Read Cert.Attn

theorem cos_apply (r : Fin 16384) (d : Fin 32) : val_main_v22 (F := Ideal) (ix2 r d) = Ideal.cos (angle r d) := by
  unfold angle
  pointwise [val_main_v22, val_main_v21, val_main_v20, val_main_v19, val_main_v18, val_main_v17, val_main_v16, val_main_v15, val_main_v14, val_main_v13, val_main_v12, val_main_v11, val_main_v10, val_main_v9, val_main_v8, val_main_cst, val_main_cst_0, val_main_cst_1]

theorem sin_apply (r : Fin 16384) (d : Fin 32) : val_main_v24 (F := Ideal) (ix2 r d) = Ideal.sin (angle r d) := by
  unfold angle
  pointwise [val_main_v24, val_main_v21, val_main_v20, val_main_v19, val_main_v18, val_main_v17, val_main_v16, val_main_v15, val_main_v14, val_main_v13, val_main_v12, val_main_v11, val_main_v10, val_main_v9, val_main_v8, val_main_cst, val_main_cst_0, val_main_cst_1]

theorem q_apply (x0 : S16896x7680.Idx → EReal) (r : Fin 16384) (h : Fin 16) (d : Fin 64) (e : Fin 1024)
    (he : e.val = h.val * 64 + d.val) : val_main_v38 (F := Ideal) x0 (ix3 r h d) = query x0 r e := by
  have hc := cos_apply r
  have hs := sin_apply r
  unfold val_main_v38 val_main_v37 val_main_v36 val_main_v35 val_main_v34 val_main_v33 val_main_v32 val_main_v31 val_main_v30 val_main_v29 val_main_v28 val_main_v23 val_main_v25
  generalize val_main_v22 (F := Ideal) = c at hc ⊢
  generalize val_main_v24 (F := Ideal) = s at hs ⊢
  pointwise [val_main_v27, val_main_v26, val_main_v3, val_main_v2, val_main_v1, val_main_v0]
  rw [query]
  by_cases hd : d.val < 32
  · rw [dif_pos hd, hc, hs]
    exact (turn_lo x0 4096 1024 (by decide) r e (by omega) ⟨4096 + (h.val * 64 + d.val), by omega⟩
      ⟨4096 + (h.val * 64 + (32 + d.val)), by omega⟩ ⟨d.val, hd⟩ (by show 4096 + (h.val * 64 + d.val) = _; omega)
      (by show 4096 + (h.val * 64 + (32 + d.val)) = _; omega) (by show d.val = _; omega)).symm
  · rw [dif_neg hd]
    refine (congrArg₂ (· + ·) (congrArg (x0 _ * ·) (hc ⟨d.val - 32, by omega⟩))
      (congrArg (x0 _ * ·) (hs ⟨d.val - 32, by omega⟩))).trans ?_
    exact (turn_hi x0 4096 1024 (by decide) r e (by omega) ⟨4096 + (h.val * 64 + (32 + (d.val - 32))), by omega⟩
      ⟨4096 + (h.val * 64 + (d.val - 32)), by omega⟩ ⟨d.val - 32, by omega⟩
      (by show 4096 + (h.val * 64 + (32 + (d.val - 32))) = _; omega)
      (by show 4096 + (h.val * 64 + (d.val - 32)) = _; omega) (by show d.val - 32 = _; omega)).symm

theorem k_apply (x0 : S16896x7680.Idx → EReal) (r : Fin 16384) (h : Fin 4) (d : Fin 64) (e : Fin 256)
    (he : e.val = h.val * 64 + d.val) : val_main_v51 (F := Ideal) x0 (ix3 r h d) = key x0 r e := by
  have hc := cos_apply r
  have hs := sin_apply r
  unfold val_main_v51 val_main_v50 val_main_v49 val_main_v48 val_main_v47 val_main_v46 val_main_v45 val_main_v44 val_main_v43 val_main_v42 val_main_v41 val_main_v23 val_main_v25
  generalize val_main_v22 (F := Ideal) = c at hc ⊢
  generalize val_main_v24 (F := Ideal) = s at hs ⊢
  pointwise [val_main_v40, val_main_v39, val_main_v5, val_main_v4, val_main_v1, val_main_v0]
  rw [key]
  by_cases hd : d.val < 32
  · rw [dif_pos hd, hc, hs]
    exact (turn_lo x0 7168 256 (by decide) r e (by omega) ⟨7168 + (h.val * 64 + d.val), by omega⟩
      ⟨7168 + (h.val * 64 + (32 + d.val)), by omega⟩ ⟨d.val, hd⟩ (by show 7168 + (h.val * 64 + d.val) = _; omega)
      (by show 7168 + (h.val * 64 + (32 + d.val)) = _; omega) (by show d.val = _; omega)).symm
  · rw [dif_neg hd]
    refine (congrArg₂ (· + ·) (congrArg (x0 _ * ·) (hc ⟨d.val - 32, by omega⟩))
      (congrArg (x0 _ * ·) (hs ⟨d.val - 32, by omega⟩))).trans ?_
    exact (turn_hi x0 7168 256 (by decide) r e (by omega) ⟨7168 + (h.val * 64 + (32 + (d.val - 32))), by omega⟩
      ⟨7168 + (h.val * 64 + (d.val - 32)), by omega⟩ ⟨d.val - 32, by omega⟩
      (by show 7168 + (h.val * 64 + (32 + (d.val - 32))) = _; omega)
      (by show 7168 + (h.val * 64 + (d.val - 32)) = _; omega) (by show d.val - 32 = _; omega)).symm

theorem v_apply (x0 : S16896x7680.Idx → EReal) (r : Fin 16384) (h : Fin 4) (d : Fin 64) (e : Fin 256)
    (he : e.val = h.val * 64 + d.val) : val_main_v7 (F := Ideal) x0 (ix3 r h d) = value x0 r e := by
  have hlt : h.val * 64 + d.val < 256 := he ▸ e.isLt
  have e' : (⟨h.val * 64 + d.val, hlt⟩ : Fin 256) = e := Fin.ext he.symm
  rw [← e']
  unfold value
  pointwise [val_main_v7, val_main_v6, val_main_v1, val_main_v0]

theorem score_apply (x0 : S16896x7680.Idx → EReal) (h h' : Fin 4) (r s : Fin 16384) : val_main_v56 (F := Ideal) x0 (ix4 h h' r s)
    = (∑ d : Fin 64, query x0 r ⟨(h.val * 4 + h'.val) * 64 + d.val, by omega⟩ * key x0 s ⟨h.val * 64 + d.val, by omega⟩)
      * eighth := by
  have hq := q_apply x0
  have hk := k_apply x0
  unfold eighth val_main_v56 val_main_v54 val_main_v53 val_main_v52
  generalize val_main_v51 (F := Ideal) x0 = k at hk ⊢
  generalize val_main_v38 (F := Ideal) x0 = q at hq ⊢
  pointwise [val_main_v55, val_main_cst_2]
  refine congrArg (· * _) (Finset.sum_congr rfl fun d _ => ?_)
  rw [mul_comm, hq r ⟨h.val * 4 + h'.val, by omega⟩ d ⟨(h.val * 4 + h'.val) * 64 + d.val, by omega⟩ rfl,
    hk s h d ⟨h.val * 64 + d.val, by omega⟩ rfl]

theorem before_eq (r : Fin 16384) : (BitVec.ofNat 32 r.val - 128#32).toInt = (r.val : Int) - 128 := by
  rw [BitVec.toInt_sub, Idealize.ShloMosaic.WordCmp.toInt_ofNat_of_lt (by omega)]
  show Int.bmod ((r.val : Int) - 128) (2 ^ 32) = _
  rw [Int.bmod_eq_of_le] <;> omega

theorem band_apply (r s : Fin 16384) : val_main_v67 (F := Ideal) (ix2 r s)
    = if s.val ≤ r.val ∧ r.val < s.val + 128 then 1#1 else 0#1 := by
  have e : val_main_v67 (F := Ideal) (ix2 r s)
      = IntOp.andi (IntOp.cmpi .sle (BitVec.ofNat 32 s.val) (BitVec.ofNat 32 r.val))
        (IntOp.cmpi .sgt (BitVec.ofNat 32 s.val) (IntOp.subi (BitVec.ofNat 32 r.val) 128#32)) := by
    pointwise [val_main_v67, val_main_v66, val_main_v65, val_main_v64, val_main_v63, val_main_v62, val_main_v61, val_main_v60, val_main_v59, val_main_v58, val_main_v57, val_main_v8, val_main_c]
  rw [e, Idealize.ShloMosaic.WordCmp.cmpi_sle_eq, Idealize.ShloMosaic.WordCmp.cmpi_sgt_eq]
  show IntOp.andi (BitVec.ofBool (decide (_ ≤ _))) (BitVec.ofBool (decide ((BitVec.ofNat 32 r.val - 128#32).toInt < _))) = _
  rw [before_eq, Idealize.ShloMosaic.WordCmp.toInt_ofNat_of_lt (by omega), Idealize.ShloMosaic.WordCmp.toInt_ofNat_of_lt (by omega)]
  by_cases h1 : s.val ≤ r.val <;> by_cases h2 : r.val < s.val + 128
  · rw [decide_eq_true (by omega), decide_eq_true (by omega), if_pos ⟨h1, h2⟩]; rfl
  · rw [decide_eq_true (by omega), decide_eq_false (by omega), if_neg fun h => h2 h.2]; rfl
  · rw [decide_eq_false (by omega), decide_eq_true (by omega), if_neg fun h => h1 h.1]; rfl
  · rw [decide_eq_false (by omega), decide_eq_false (by omega), if_neg fun h => h1 h.1]; rfl

theorem select_if (q : Prop) [Decidable q] (a b : EReal) :
    Scalar.select (if q then (1#1 : BitVec 1) else 0#1) a b = if q then a else b := by
  by_cases h : q <;> simp [h, Scalar.select]

theorem bot_eq : Ideal.ofBits .f32 0xFF800000#32 = ⊥ := by
  simp [Ideal.ofBits, Ideal.ieee]

theorem masked_apply (x0 : S16896x7680.Idx → EReal) (h h' : Fin 4) (r s : Fin 16384) (g : Fin 16)
    (hg : g.val = h.val * 4 + h'.val) : val_main_v68 (F := Ideal) x0 (ix4 h h' r s) = score x0 g r s := by
  have e1 : val_main_call0_v1 (F := Ideal) (ix4 h h' r s) = val_main_v67 (F := Ideal) (ix2 r s) := by
    unfold val_main_call0_v1
    generalize val_main_v67 (F := Ideal) = y
    pointwise []
  have e2 : val_main_call0_v2 (F := Ideal) (ix4 h h' r s) = ⊥ := by
    refine Eq.trans ?_ bot_eq
    rw [val_main_call0_v2_apply, val_main_call0_v0_apply, val_main_cst_3_apply]
    rfl
  rw [val_main_v68_apply, e1, e2, band_apply, select_if, score_apply]
  unfold score
  refine if_congr Iff.rfl (congrArg (· * _) (Finset.sum_congr rfl fun d _ => ?_)) rfl
  congr 2
  · exact Fin.ext (by show (h.val * 4 + h'.val) * 64 + d.val = g.val * 64 + d.val; omega)
  · exact Fin.ext (by show h.val * 64 + d.val = g.val / 4 * 64 + d.val; omega)

theorem join_apply (a : S4x4x16384x16384.Idx → EReal) (b : S4x4x16384x1.Idx → EReal) (h h' : Fin 4) (r : Fin 16384)
    (k : Fin 16385) : concatenate S4x4x16384x16385 3 [⟨S4x4x16384x16384, a⟩, ⟨S4x4x16384x1, b⟩]
      concatenates_S4x4x16384x16384_S4x4x16384x1_S4x4x16384x16385_d3 (ix4 h h' r k)
      = if hk : k.val < 16384 then a (ix4 h h' r ⟨k.val, hk⟩) else b (ix4 h h' r 0) := by
  pointwise []
  by_cases hk : k.val < 16384
  · rw [dif_pos hk, dif_pos hk]
  · rw [dif_neg hk, dif_neg hk]
    exact congrArg (fun u => b (ix4 h h' r u)) (Fin.ext (by show k.val - 16384 = 0; omega))

theorem sink_apply (x1 : S1x16.Idx → EReal) (h h' : Fin 4) (r : Fin 16384) :
    val_main_v72 (F := Ideal) x1 (ix4 h h' r 0) = x1 (ix2 0 ⟨h.val * 4 + h'.val, by omega⟩) := by
  pointwise [val_main_v72, val_main_v71, val_main_v70, val_main_v69]

/-- The scores with the sink behind them. -/
theorem joined_key (x0 : S16896x7680.Idx → EReal) (x1 : S1x16.Idx → EReal) (h h' : Fin 4) (r s : Fin 16384) (g : Fin 16)
    (hg : g.val = h.val * 4 + h'.val) : val_main_v73 (F := Ideal) x0 x1 (ix4 h h' r s.castSucc) = score x0 g r s := by
  unfold val_main_v73
  rw [join_apply, dif_pos (show s.castSucc.val < 16384 from s.isLt)]
  exact masked_apply x0 h h' r s g hg

theorem joined_sink (x0 : S16896x7680.Idx → EReal) (x1 : S1x16.Idx → EReal) (h h' : Fin 4) (r : Fin 16384) (g : Fin 16)
    (hg : g.val = h.val * 4 + h'.val) :
    val_main_v73 (F := Ideal) x0 x1 (ix4 h h' r (Fin.last 16384)) = x1 (ix2 0 g) := by
  have hlt : h.val * 4 + h'.val < 16 := hg ▸ g.isLt
  have e : (⟨h.val * 4 + h'.val, hlt⟩ : Fin 16) = g := Fin.ext hg.symm
  rw [← e]
  unfold val_main_v73
  rw [join_apply, dif_neg (show ¬ (Fin.last 16384).val < 16384 from lt_irrefl _)]
  exact sink_apply x1 h h' r

theorem fold_apply (y : S4x4x16384x16385.Idx → EReal) (h h' : Fin 4) (r : Fin 16384) :
    Host.reduce (FloatOps.maximumf (F := Ideal) (φ := .f32)) y (val_main_cst_4 (F := Ideal)) reducesTo_S4x4x16384x16385_S4x4x16384_d3 h_S_ (ix3 h h' r)
      = Finset.univ.fold max ⊥ (fun k : Fin 16385 => y (ix4 h h' r k)) := by
  unfold val_main_cst_4
  rw [hostReduce_maximumf_eq_multiReduction (F := Ideal) (φ := .f32) (u := S_) y 0xFF800000#32
    reducesTo_S4x4x16384x16385_S4x4x16384_d3 h_S_ (by decide) (.inl rfl) rfl]
  refine (Ideal.multiReduction_maximumf_single (φ := .f32) (s := S4x4x16384x16385) (a := (3 : Fin 4)) y _ _ _ _ _).trans ?_
  refine Eq.trans ?_ (congrArg (fun b => Finset.univ.fold max b _) bot_eq)
  refine congrArg (Finset.univ.fold max _) (funext fun k => congrArg y (funext fun a => Fin.ext ?_))
  match a with
  | ⟨0, _⟩ => rfl
  | ⟨1, _⟩ => rfl
  | ⟨2, _⟩ => rfl
  | ⟨3, _⟩ => rfl

theorem peak_apply (x0 : S16896x7680.Idx → EReal) (x1 : S1x16.Idx → EReal) (h h' : Fin 4) (r : Fin 16384) (g : Fin 16)
    (hg : g.val = h.val * 4 + h'.val) :
    val_main_v76 (F := Ideal) x0 x1 (ix3 h h' r) = peak (score x0 g r) (x1 (ix2 0 g)) := by
  have e : val_main_v75 (F := Ideal) (ix3 h h' r) = ⊥ := by
    refine Eq.trans ?_ bot_eq
    pointwise [val_main_v75, val_main_cst_5]
  rw [val_main_v76_apply, e]
  show max ⊥ _ = _
  rw [max_bot_left]
  unfold val_main_v74
  rw [fold_apply]
  refine eq_of_forall_ge_iff fun c => ?_
  rw [Finset.fold_max_le, peak_le]
  simp only [bot_le, true_and, Finset.mem_univ, forall_const]
  rw [Fin.forall_fin_succ']
  simp only [joined_key x0 x1 h h' r _ g hg, joined_sink x0 x1 h h' r g hg]

theorem weight_apply (x0 : S16896x7680.Idx → EReal) (x1 : S1x16.Idx → EReal) (h h' : Fin 4) (r : Fin 16384) (k : Fin 16385)
    (g : Fin 16) (hg : g.val = h.val * 4 + h'.val) : val_main_v80 (F := Ideal) x0 x1 (ix4 h h' r k)
      = Ideal.exp (val_main_v73 (F := Ideal) x0 x1 (ix4 h h' r k) - peak (score x0 g r) (x1 (ix2 0 g))) := by
  have e : val_main_v78 (F := Ideal) x0 x1 (ix4 h h' r k) = val_main_v76 (F := Ideal) x0 x1 (ix3 h h' r) := by
    unfold val_main_v78 val_main_v77
    generalize val_main_v76 (F := Ideal) x0 x1 = y
    pointwise []
  rw [val_main_v80_apply, val_main_v79_apply, e, peak_apply x0 x1 h h' r g hg]
  rfl

theorem total_apply (x0 : S16896x7680.Idx → EReal) (x1 : S1x16.Idx → EReal) (h h' : Fin 4) (r : Fin 16384)
    (g : Fin 16) (hg : g.val = h.val * 4 + h'.val) : val_main_v81 (F := Ideal) x0 x1 (ix3 h h' r)
      = (∑ s, Ideal.exp (score x0 g r s - peak (score x0 g r) (x1 (ix2 0 g))))
        + Ideal.exp (x1 (ix2 0 g) - peak (score x0 g r) (x1 (ix2 0 g))) := by
  have hi (k : Fin 16385) : idx_main_v81 (ix3 h h' r) k = ix4 h h' r k := funext fun a => Fin.ext (by
    match a with
    | ⟨0, _⟩ => rfl
    | ⟨1, _⟩ => rfl
    | ⟨2, _⟩ => rfl
    | ⟨3, _⟩ => rfl)
  have h0 : (val_main_cst_6 (F := Ideal)) (Shape.Idx.first h_S_) = (0 : EReal) := by
    rw [val_main_cst_6_apply]
    show Ideal.ofBits .f32 0x00000000#32 = 0
    simp [Ideal.ofBits, Ideal.ieee]
  rw [val_main_v81_apply, h0, zero_add, Fin.sum_univ_castSucc]
  simp only [hi, weight_apply x0 x1 h h' r _ g hg, joined_key x0 x1 h h' r _ g hg, joined_sink x0 x1 h h' r g hg]

theorem share_apply (x0 : S16896x7680.Idx → EReal) (x1 : S1x16.Idx → EReal) (h h' : Fin 4) (r s : Fin 16384)
    (g : Fin 16) (hg : g.val = h.val * 4 + h'.val) : val_main_v85 (F := Ideal) x0 x1 (ix4 h h' r s)
      = Ideal.div (Ideal.exp (score x0 g r s - peak (score x0 g r) (x1 (ix2 0 g))))
        ((∑ s, Ideal.exp (score x0 g r s - peak (score x0 g r) (x1 (ix2 0 g))))
          + Ideal.exp (x1 (ix2 0 g) - peak (score x0 g r) (x1 (ix2 0 g)))) := by
  have hi : idx_main_v85 (ix4 h h' r s) = ix4 h h' r s.castSucc := funext fun a => Fin.ext (by
    match a with
    | ⟨0, _⟩ => rfl
    | ⟨1, _⟩ => rfl
    | ⟨2, _⟩ => rfl
    | ⟨3, _⟩ => rfl)
  have e : val_main_v83 (F := Ideal) x0 x1 (ix4 h h' r s.castSucc) = val_main_v81 (F := Ideal) x0 x1 (ix3 h h' r) := by
    unfold val_main_v83 val_main_v82
    generalize val_main_v81 (F := Ideal) x0 x1 = y
    pointwise []
  rw [val_main_v85_apply, hi, val_main_v84_apply, e, total_apply x0 x1 h h' r g hg, weight_apply x0 x1 h h' r _ g hg,
    joined_key x0 x1 h h' r s g hg]
  rfl

/-- The reference's attention, one entry. -/
theorem rows_apply (x0 : S16896x7680.Idx → EReal) (x1 : S1x16.Idx → EReal) (hx : ∀ i, Bounded (x0 i)) (hb : ∀ i, Bounded (x1 i))
    (r : Fin 16384) (j : Fin 1024) : val_main_v89 (F := Ideal) x0 x1 (ix2 r j) = attn x0 x1 (ix2 r j) := by
  have e : val_main_v89 (F := Ideal) x0 x1 (ix2 r j)
      = val_main_v86 (F := Ideal) x0 x1 (ix4 ⟨j.val / 256, by omega⟩ ⟨j.val % 64, by omega⟩ ⟨j.val / 64 % 4, by omega⟩ r) := by
    unfold val_main_v89 val_main_v88 val_main_v87
    generalize val_main_v86 (F := Ideal) x0 x1 = s
    pointwise []
  have e' : val_main_v86 (F := Ideal) x0 x1 (ix4 ⟨j.val / 256, by omega⟩ ⟨j.val % 64, by omega⟩ ⟨j.val / 64 % 4, by omega⟩ r)
      = ∑ s : Fin 16384, val_main_v7 (F := Ideal) x0 (ix3 s ⟨j.val / 256, by omega⟩ ⟨j.val % 64, by omega⟩)
        * val_main_v85 (F := Ideal) x0 x1 (ix4 ⟨j.val / 256, by omega⟩ ⟨j.val / 64 % 4, by omega⟩ r s) := by
    unfold val_main_v86
    generalize val_main_v85 (F := Ideal) x0 x1 = p
    generalize val_main_v7 (F := Ideal) x0 = v
    pointwise []
  rw [e, e']
  show _ = soft (score x0 ⟨j.val / 64, by omega⟩ r) (x1 (ix2 0 ⟨j.val / 64, by omega⟩))
    (fun s => value x0 s ⟨j.val / 64 / 4 * 64 + j.val % 64, by omega⟩)
  rw [← soft_eq _ _ _ (score_ne_top x0 hx _ r) (hb _).1 (hb _).2]
  refine Finset.sum_congr rfl fun s _ => ?_
  rw [share_apply x0 x1 _ _ r s ⟨j.val / 64, by omega⟩ (by show j.val / 64 = j.val / 256 * 4 + j.val / 64 % 4; omega),
    v_apply x0 s _ _ ⟨j.val / 64 / 4 * 64 + j.val % 64, by omega⟩
      (by show j.val / 64 / 4 * 64 + j.val % 64 = j.val / 256 * 64 + j.val % 64; omega)]

theorem keys_apply (x0 : S16896x7680.Idx → EReal) (r : Fin 128) (e : Fin 256) :
    val_main_v91 (F := Ideal) x0 (ix2 r e) = keys x0 (ix2 r e) := by
  have h : val_main_v91 (F := Ideal) x0 (ix2 r e)
      = val_main_v51 (F := Ideal) x0 (ix3 ⟨16256 + r.val, by omega⟩ ⟨e.val / 64, by omega⟩ ⟨e.val % 64, by omega⟩) := by
    unfold val_main_v91 val_main_v90
    generalize val_main_v51 (F := Ideal) x0 = s
    pointwise []
  rw [h]
  exact k_apply x0 _ _ _ e (by show e.val = e.val / 64 * 64 + e.val % 64; omega)

theorem values_apply (x0 : S16896x7680.Idx → EReal) (r : Fin 128) (e : Fin 256) :
    val_main_v93 (F := Ideal) x0 (ix2 r e) = values x0 (ix2 r e) := by
  have h : val_main_v93 (F := Ideal) x0 (ix2 r e)
      = val_main_v7 (F := Ideal) x0 (ix3 ⟨16256 + r.val, by omega⟩ ⟨e.val / 64, by omega⟩ ⟨e.val % 64, by omega⟩) := by
    unfold val_main_v93 val_main_v92
    generalize val_main_v7 (F := Ideal) x0 = s
    pointwise []
  rw [h]
  exact v_apply x0 _ _ _ e (by show e.val = e.val / 64 * 64 + e.val % 64; omega)

end Cert.AttnReferenceIdeal.Mix
-- ==== Proof.Attn.lean ====
/-
  Attention over the prompt: of finite rows and finite sinks, the kernel and the reference leave the same mixed rows, and the
  same keys and values of the last 128 positions.
-/
module

public import proofs.«01_k».proof.Proof.AttnRows
public import proofs.«01_k».proof.Proof.AttnHost
public import proofs.«01_k».proof.Proof.Gen.Pre_finite_attn
public import Idealize.ShloMosaic.Lib.ReduceAll

@[expose] public section

set_option maxRecDepth 16384

noncomputable section

open Idealize.ShloMosaic Idealize.ShloMosaic.TcCoe Idealize.SL.Sem

namespace Cert.Proof

theorem top_eq : Ideal.ofBits .f32 0x7F800000#32 = ⊤ := by
  simp [Ideal.ofBits, Ideal.ieee]

/-- An entry whose size is below +∞ is a real number. -/
theorem bounded_of_less (x : EReal) (h : Ideal.cmp .olt (max x (-x)) (Ideal.ofBits .f32 0x7F800000#32) = 1#1) :
    Cert.Attn.Bounded x := by
  rw [top_eq] at h
  have h' : max x (-x) < ⊤ := by
    by_contra hn
    rw [Ideal.cmp] at h
    simp [hn] at h
  refine ⟨fun e => ?_, fun e => ?_⟩
  · rw [e] at h'; simp at h'
  · rw [e] at h'; simp at h'

instance : Subsingleton Cert.Pre_finite_attn.S_.Idx := ⟨fun a b => funext fun i => i.elim0⟩

/-- What the condition on the arguments says: every row entry and every sink is a real number. -/
theorem finite_of_pre (x0 : Cert.Pre_finite_attn.S16896x7680.Idx → EReal) (x1 : Cert.Pre_finite_attn.S1x16.Idx → EReal)
    (h : haveI := Cert.Pre_finite_attn.Gen.facts
      Cert.Pre_finite_attn.fn (F := Ideal) x0 x1 = fun _ => 1#1) :
    (∀ i, Cert.Attn.Bounded (x0 i)) ∧ ∀ i, Cert.Attn.Bounded (x1 i) := by
  haveI := Cert.Pre_finite_attn.Gen.facts
  have h0 := congrFun h (fun i => i.elim0)
  unfold Cert.Pre_finite_attn.fn at h0
  obtain ⟨ha, hb⟩ := IntOp.andi_eq_one.1 h0
  exact ⟨fun i => bounded_of_less _ (Host.reduce_andi_all _ _ _ _ _ ha i),
    fun i => bounded_of_less _ (Host.reduce_andi_all _ _ _ _ _ hb i)⟩

/-- Over the extended reals the kernel's mixed rows, keys and values are the reference's. -/
theorem attn_algebraic : Cert.algebraic_AttnKernelIdeal_AttnReferenceIdeal_pre_finite_attn
    (hAttnKernelIdeal := Cert.AttnKernelIdeal.Gen.facts) (hAttnReferenceIdeal := Cert.AttnReferenceIdeal.Gen.facts)
    (hPre_finite_attn := Cert.Pre_finite_attn.Gen.facts) := by
  intro m g m' g' hpre hargs
  refine ⟨fun c => Cert.AttnKernelIdeal.Mix.rows m c, fun c => Cert.Attn.keys (m ((c.tc : Thread _ _).loc Cert.AttnKernelIdeal.main_arg0)),
    fun c => Cert.Attn.values (m ((c.tc : Thread _ _).loc Cert.AttnKernelIdeal.main_arg0)), ?_, ?_⟩
  · exact (θ_run Cert.AttnKernelIdeal.defs _ _).mono (fun _ h c =>
      ⟨(h c).1.trans ((Cert.AttnKernelIdeal.Gen.dats m 0 c).arrAt_eq_of_cover 10 _
          (fun t _ => Cert.AttnKernelIdeal.Mix.flushed10_eq m c t) Cert.AttnKernelIdeal.Mix.cover10),
        (h c).2.1.trans ((Cert.AttnKernelIdeal.Gen.dats m 0 c).arrAt_eq_of_cover 11 _
          (fun t hf => Cert.AttnKernelIdeal.Mix.flushed11_eq m c t hf) Cert.AttnKernelIdeal.Mix.cover11),
        (h c).2.2.1.trans ((Cert.AttnKernelIdeal.Gen.dats m 0 c).arrAt_eq_of_cover 12 _
          (fun t hf => Cert.AttnKernelIdeal.Mix.flushed12_eq m c t hf) Cert.AttnKernelIdeal.Mix.cover12), (h c).2.2.2⟩)
      (Cert.AttnKernelIdeal.Value.run_blocks m g)
  refine (θ_run Cert.AttnReferenceIdeal.defs _ _).mono (fun r h c => ⟨?_, ?_, ?_, (h c).2.2.2⟩)
    (Cert.AttnReferenceIdeal.Value.run (F := Ideal) m' g')
  · refine (h c).1.trans ((Cert.AttnReferenceIdeal.Read.val_main_v89_eq (F := Ideal) _ _).trans ?_)
    obtain ⟨hx, hb⟩ := finite_of_pre _ _ (hpre c)
    obtain ⟨a0, a1⟩ := hargs c
    rw [a0, a1]
    refine funext fun y => ?_
    exact (congrArg _ (eq_ix2 (n0 := 16384) (n1 := 1024) y)).trans
      ((Cert.AttnReferenceIdeal.Mix.rows_apply _ _ hx hb (y 0) (y 1)).trans
        (congrArg _ (eq_ix2 (n0 := 16384) (n1 := 1024) y).symm))
  · refine (h c).2.1.trans ((Cert.AttnReferenceIdeal.Read.val_main_v91_eq (F := Ideal) _ _).trans ?_)
    rw [(hargs c).1]
    refine funext fun y => ?_
    exact (congrArg _ (eq_ix2 (n0 := 128) (n1 := 256) y)).trans
      ((Cert.AttnReferenceIdeal.Mix.keys_apply _ (y 0) (y 1)).trans
        (congrArg _ (eq_ix2 (n0 := 128) (n1 := 256) y).symm))
  · refine (h c).2.2.1.trans ((Cert.AttnReferenceIdeal.Read.val_main_v93_eq (F := Ideal) _).trans ?_)
    rw [(hargs c).1]
    refine funext fun y => ?_
    exact (congrArg _ (eq_ix2 (n0 := 128) (n1 := 256) y)).trans
      ((Cert.AttnReferenceIdeal.Mix.values_apply _ (y 0) (y 1)).trans
        (congrArg _ (eq_ix2 (n0 := 128) (n1 := 256) y).symm))

end Cert.Proof

end
-- ==== Proof.Gmlp.lean ====
/-
  The gated unit over tokens: one half of a row, taken through the Gaussian error unit and scaled to zero mean and unit
  variance, is mixed over the rows of its chunk by a causal weight and multiplied onto the other half. Both programs are
  shown to leave those rows, and the normalised rows of the last prompt chunk and of the samples.
-/
module

public import proofs.«01_k».proof.Defs
public import proofs.«01_k».proof.Proof.Inproj
public import proofs.«01_k».proof.Proof.Gen.GmlpKernelIdeal.Value
public import proofs.«01_k».proof.Proof.Gen.GmlpReferenceIdeal.Run
public import proofs.«01_k».proof.Proof.Gen.GmlpReferenceIdeal.Read
public import Idealize.ShloMosaic.Lib.Pipeline.Value
public import Idealize.ShloMosaic.Lib.Pipeline.ValueKit.Tiles
public import Idealize.ShloMosaic.Lib.Pointwise
public import Idealize.ShloMosaic.Lib.ValueIdx
public import Idealize.ShloMosaic.PureOps.Ideal.Laws
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Gmlp

/-- The Gaussian error unit. -/
def gelu (x : EReal) : EReal :=
  Ideal.ofBits .f32 0x3F000000#32 * x * (1 + Ideal.erf (x * Ideal.ofBits .f32 0x3F3504F3#32))

/-- A row's mean. -/
def mean (x : Fin 1024 → EReal) : EReal := Ideal.div (∑ l : Fin 1024, x l) (Ideal.ofBits .f32 0x44800000#32)

/-- One entry of a row scaled to zero mean and unit variance, times its gain, plus its offset. -/
def lnorm (x g b : Fin 1024 → EReal) (j : Fin 1024) : EReal :=
  (x j - mean x) * Ideal.rsqrt (mean (fun l => (x l - mean x) * (x l - mean x)) + Ideal.ofBits .f32 0x358637BD#32)
    * g j + b j

/-- The normalised rows. -/
def gate (z : (⟨2, ![16896, 7680]⟩ : Shape).Idx → EReal) (g b : (⟨2, ![1, 1024]⟩ : Shape).Idx → EReal) :
    (⟨2, ![16896, 1024]⟩ : Shape).Idx → EReal := fun i =>
  lnorm (fun l => gelu (z (ix2 (i 0) ⟨6144 + l.val, by omega⟩))) (fun l => g (ix2 0 l)) (fun l => b (ix2 0 l)) (i 1)

/-- The causal weight of row `s` on row `t` in a chunk, for the head of column `j`. -/
def wt (w : (⟨4, ![1, 4, 128, 128]⟩ : Shape).Idx → EReal) (j : Fin 1024) (t s : Fin 128) : EReal :=
  if s.val ≤ t.val then w (ix4 0 ⟨j.val / 256, by omega⟩ t s) else 0

/-- The mixture over the rows of a prompt chunk. -/
def mixP (v : (⟨2, ![16896, 1024]⟩ : Shape).Idx → EReal) (w : (⟨4, ![1, 4, 128, 128]⟩ : Shape).Idx → EReal)
    (b : (⟨3, ![1, 4, 128]⟩ : Shape).Idx → EReal) (n t : Fin 128) (j : Fin 1024) : EReal :=
  (∑ s : Fin 128, v (ix2 ⟨n.val * 128 + s.val, by omega⟩ j) * wt w j t s) + b (ix3 0 ⟨j.val / 256, by omega⟩ t)

/-- The mixture over the rows of a sample's chunk. -/
def mixS (v : (⟨2, ![16896, 1024]⟩ : Shape).Idx → EReal) (w : (⟨4, ![1, 4, 128, 128]⟩ : Shape).Idx → EReal)
    (b : (⟨3, ![1, 4, 128]⟩ : Shape).Idx → EReal) (n : Fin 128) (t : Fin 4) (j : Fin 1024) : EReal :=
  (∑ s : Fin 4, v (ix2 ⟨16384 + (n.val * 4 + s.val), by omega⟩ j) * wt w j ⟨t.val, by omega⟩ ⟨s.val, by omega⟩)
    + b (ix3 0 ⟨j.val / 256, by omega⟩ ⟨t.val, by omega⟩)

/-- The gated rows. -/
def gated (z : (⟨2, ![16896, 7680]⟩ : Shape).Idx → EReal) (g b : (⟨2, ![1, 1024]⟩ : Shape).Idx → EReal)
    (w : (⟨4, ![1, 4, 128, 128]⟩ : Shape).Idx → EReal) (c : (⟨3, ![1, 4, 128]⟩ : Shape).Idx → EReal) :
    (⟨2, ![16896, 1024]⟩ : Shape).Idx → EReal := fun i =>
  gelu (z (ix2 (i 0) ⟨5120 + (i 1).val, by have h : (i 1).val < 1024 := (i 1).isLt; omega⟩)) *
    if h : (i 0).val < 16384 then
      mixP (gate z g b) w c ⟨(i 0).val / 128, by omega⟩ ⟨(i 0).val % 128, by omega⟩ (i 1)
    else
      mixS (gate z g b) w c ⟨((i 0).val - 16384) / 4, by have h : (i 0).val < 16896 := (i 0).isLt; omega⟩
        ⟨((i 0).val - 16384) % 4, by omega⟩ (i 1)

theorem gated_prompt (z : (⟨2, ![16896, 7680]⟩ : Shape).Idx → EReal) (g b : (⟨2, ![1, 1024]⟩ : Shape).Idx → EReal)
    (w : (⟨4, ![1, 4, 128, 128]⟩ : Shape).Idx → EReal) (c : (⟨3, ![1, 4, 128]⟩ : Shape).Idx → EReal) (r : Fin 16896)
    (j : Fin 1024) (h : r.val < 16384) : gated z g b w c (ix2 r j) = gelu (z (ix2 r ⟨5120 + j.val, by omega⟩)) *
      mixP (gate z g b) w c ⟨r.val / 128, by omega⟩ ⟨r.val % 128, by omega⟩ j :=
  congrArg (gelu (z (ix2 r ⟨5120 + j.val, by omega⟩)) * ·) (dif_pos h)

theorem gated_sample (z : (⟨2, ![16896, 7680]⟩ : Shape).Idx → EReal) (g b : (⟨2, ![1, 1024]⟩ : Shape).Idx → EReal)
    (w : (⟨4, ![1, 4, 128, 128]⟩ : Shape).Idx → EReal) (c : (⟨3, ![1, 4, 128]⟩ : Shape).Idx → EReal) (r : Fin 16896)
    (j : Fin 1024) (h : ¬ r.val < 16384) : gated z g b w c (ix2 r j) = gelu (z (ix2 r ⟨5120 + j.val, by omega⟩)) *
      mixS (gate z g b) w c ⟨(r.val - 16384) / 4, by omega⟩ ⟨(r.val - 16384) % 4, by omega⟩ j :=
  congrArg (gelu (z (ix2 r ⟨5120 + j.val, by omega⟩)) * ·) (dif_neg h)

/-- The normalised rows of the last prompt chunk and of the samples. -/
def state (z : (⟨2, ![16896, 7680]⟩ : Shape).Idx → EReal) (g b : (⟨2, ![1, 1024]⟩ : Shape).Idx → EReal) :
    (⟨2, ![640, 1024]⟩ : Shape).Idx → EReal := fun i =>
  gate z g b (ix2 ⟨16256 + (i 0).val, by have h : (i 0).val < 640 := (i 0).isLt; omega⟩ (i 1))

end Cert.Gmlp

namespace Cert.GmlpKernelIdeal.Mix

open Cert.GmlpKernelIdeal Cert.GmlpKernelIdeal.Gen Cert.Gmlp

variable (m : (ℓ : Loc nD τ sig) → Buf (Elt Ideal) ℓ) (ρ : Dev nD → PrngReg)

theorem pay1_apply (x : Vec Ideal S128x1024 .bf16) (p : Fin 128) (j : Fin 1024) :
    k0_pay1 (F := Ideal) x (ix2 p j) = gelu (x (ix2 p j)) := by
  pointwise [k0_pay1, gelu]
  rfl

theorem norm_apply (x : Vec Ideal S128x1024 .bf16) (g b : Vec Ideal S1x1024 .f32) (p : Fin 128) (j : Fin 1024) :
    k0_pay3 (F := Ideal) (k0_pay2 (F := Ideal) x g) b (ix2 p j)
      = lnorm (fun l => gelu (x (ix2 p l))) (fun l => g (ix2 0 l)) (fun l => b (ix2 0 l)) j := by
  pointwise [k0_pay3, k0_pay2, lnorm, mean, gelu]
  rfl

/-- The body's gated block, of the point's number, both halves, all heads' weights and offsets. -/
def blk (a : BitVec 32) (u v : Vec Ideal S128x1024 .f32) (y : Vec Ideal S1x1024 .f32) (w : Vec Ideal S1x4x128x128 .f32)
    (b : Vec Ideal S1x4x128x1 .f32) : Vec Ideal S128x1024 .bf16 :=
  k0_pay8 (F := Ideal) u (k0_pay4 a) (k0_pay5 (F := Ideal) v y)
    (k0_pay6 (F := Ideal) a u v y (View.ld w (Rect.unit ![0, 0, 0, 0] ![1, 1, 128, 128] inb_S1x4x128x128_S1x1x128x128_0_0_0_0))
      (View.ld b (Rect.unit ![0, 0, 0, 0] ![1, 1, 128, 1] inb_S1x4x128x1_S1x1x128x1_0_0_0_0)))
    (k0_pay7 (F := Ideal) a v y (View.ld w (Rect.unit ![0, 1, 0, 0] ![1, 1, 128, 128] inb_S1x4x128x128_S1x1x128x128_0_1_0_0)))
    (View.ld b (Rect.unit ![0, 1, 0, 0] ![1, 1, 128, 1] inb_S1x4x128x1_S1x1x128x1_0_1_0_0))
    (View.ld w (Rect.unit ![0, 2, 0, 0] ![1, 1, 128, 128] inb_S1x4x128x128_S1x1x128x128_0_2_0_0))
    (View.ld b (Rect.unit ![0, 2, 0, 0] ![1, 1, 128, 1] inb_S1x4x128x1_S1x1x128x1_0_2_0_0))
    (View.ld w (Rect.unit ![0, 3, 0, 0] ![1, 1, 128, 128] inb_S1x4x128x128_S1x1x128x128_0_3_0_0))
    (View.ld b (Rect.unit ![0, 3, 0, 0] ![1, 1, 128, 1] inb_S1x4x128x1_S1x1x128x1_0_3_0_0))

theorem out6 (c : Dev nD) (t : Fin cfg0.N) : (outsAt0 m c t).1
    = blk (BitVec.ofNat 32 ↑(grid0.coords t 0)) (k0_pay1 (F := Ideal) (X0_0 m c t))
      (k0_pay2 (F := Ideal) (X0_1 m c t) (iblk m c 2 t)) (iblk m c 3 t) (iblk m c 4 t) (iblk m c 5 t) := by
  unfold outsAt0 blk
  frame_out

theorem out7 (c : Dev nD) (t : Fin cfg0.N) : (outsAt0 m c t).2
    = k0_pay3 (F := Ideal) (k0_pay2 (F := Ideal) (X0_1 m c t) (iblk m c 2 t)) (iblk m c 3 t) := by
  unfold outsAt0
  frame_out

/-- One entry of the gated block. -/
theorem blk_apply (a : BitVec 32) (u v : Vec Ideal S128x1024 .f32) (y : Vec Ideal S1x1024 .f32)
    (w : Vec Ideal S1x4x128x128 .f32) (b : Vec Ideal S1x4x128x1 .f32) (p : Fin 128) (j : Fin 1024) (h : Fin 4)
    (hh : h.val = j.val / 256) :
    blk a u v y w b (ix2 p j) = u (ix2 p j) * ((∑ s : Fin 128, Scalar.select (k0_pay4 a (ix2 p s)) (w (ix4 0 h p s)) 0
      * k0_pay3 (F := Ideal) v y (ix2 s j)) + b (ix4 0 h p 0)) := by
  match h with
  | 0 =>
    have h0 : j.val < 256 := by simp at hh; omega
    pointwise [blk, k0_pay8, k0_pay6, k0_pay5, h0]
  | 1 =>
    have h0 : ¬ j.val < 256 := by simp at hh; omega
    have h1 : j.val - 256 < 256 := by simp at hh; omega
    have e : 256 + (j.val - 256) = j.val := by omega
    pointwise [blk, k0_pay8, k0_pay7, k0_pay5, h0, h1, e]
  | 2 =>
    have h0 : ¬ j.val < 256 := by simp at hh; omega
    have h1 : ¬ j.val - 256 < 256 := by simp at hh; omega
    have h2 : j.val - 256 - 256 < 256 := by simp at hh; omega
    have e : 512 + (j.val - 256 - 256) = j.val := by simp at hh; omega
    pointwise [blk, k0_pay8, k0_pay5, h0, h1, h2, e]
  | 3 =>
    have h0 : ¬ j.val < 256 := by simp at hh; omega
    have h1 : ¬ j.val - 256 < 256 := by simp at hh; omega
    have h2 : ¬ j.val - 256 - 256 < 256 := by simp at hh; omega
    have e : 768 + (j.val - 256 - 256 - 256) = j.val := by simp at hh; omega
    pointwise [blk, k0_pay8, k0_pay5, h0, h1, h2, e]

/-- The causal mask inside groups of `2 ^ k` rows. -/
abbrev msk (k : BitVec 32) (p s : Fin 128) : BitVec 1 :=
  IntOp.andi (IntOp.cmpi CmpIPredicate.sle (BitVec.ofNat 32 s.val) (BitVec.ofNat 32 p.val))
    (IntOp.cmpi CmpIPredicate.eq (IntOp.shrsi ArithUnit.vector (BitVec.ofNat 32 p.val) k)
      (IntOp.shrsi ArithUnit.vector (BitVec.ofNat 32 s.val) k))

theorem msk_prompt : ∀ p s : Fin 128, msk 7#32 p s = if s.val ≤ p.val then 1#1 else 0#1 := by
  decide +kernel

theorem msk_sample : ∀ p s : Fin 128, msk 2#32 p s = if s.val ≤ p.val ∧ s.val / 4 = p.val / 4 then 1#1 else 0#1 := by
  decide +kernel

theorem shift_of : ∀ t : Fin cfg0.N, Scalar.select (Scalar.cmpi CmpIPredicate.slt (BitVec.ofNat 32 ↑(grid0.coords t 0)) 128#32)
    7#32 2#32 = if t.val < 128 then 7#32 else 2#32 := by
  decide +kernel

theorem mask_apply (t : Fin cfg0.N) (p s : Fin 128) :
    k0_pay4 (BitVec.ofNat 32 ↑(grid0.coords t 0)) (ix2 p s) = msk (if t.val < 128 then 7#32 else 2#32) p s := by
  rw [← shift_of]
  generalize BitVec.ofNat 32 ↑(grid0.coords t 0) = a
  pointwise [k0_pay4]

/-- The two tables of weights: the whole ones, and the first four rows and columns repeated. -/
def tabW (w : S1x4x128x128.Idx → EReal) : S2x4x128x128.Idx → EReal :=
  concatenate S2x4x128x128 0
    [⟨S1x4x128x128, broadcastInDim S1x4x128x128 ![1, 2, 3] bcast_S4x128x128_S1x4x128x128_1_2_3
        (shapeCast S4x128x128 w shapeCasts_S1x4x128x128_S4x128x128)⟩,
      ⟨S1x4x128x128, broadcastInDim S1x4x128x128 ![1, 2, 3] bcast_S4x128x128_S1x4x128x128_1_2_3
        (shapeCast S4x128x128 (broadcastInDim S1x4x32x4x32x4 ![0, 1, 2, 3, 4, 5] bcast_S1x4x1x4x1x4_S1x4x32x4x32x4_0_1_2_3_4_5
          (shapeCast S1x4x1x4x1x4 (extractStridedSlice S4x4x4 ![0, 0, 0]
            (shapeCast S4x128x128 w shapeCasts_S1x4x128x128_S4x128x128) slices_S4x128x128_S4x4x4_0_0_0)
            shapeCasts_S4x4x4_S1x4x1x4x1x4)) shapeCasts_S1x4x32x4x32x4_S4x128x128)⟩]
    concatenates_S1x4x128x128_S1x4x128x128_S2x4x128x128_d0

theorem tabW_zero (w : S1x4x128x128.Idx → EReal) (h : Fin 4) (p s : Fin 128) :
    tabW w (ix4 0 h p s) = w (ix4 0 h p s) := by
  pointwise [tabW]

theorem tabW_one (w : S1x4x128x128.Idx → EReal) (h : Fin 4) (p s : Fin 128) :
    tabW w (ix4 1 h p s) = w (ix4 0 h ⟨p.val % 4, by omega⟩ ⟨s.val % 4, by omega⟩) := by
  pointwise [tabW]

/-- The two tables of offsets. -/
def tabB (b : S1x4x128.Idx → EReal) : S2x4x128x1.Idx → EReal :=
  broadcastInDim S2x4x128x1 ![0, 1, 2] bcast_S2x4x128_S2x4x128x1_0_1_2 (concatenate S2x4x128 0
    [⟨S1x4x128, broadcastInDim S1x4x128 ![1, 2] bcast_S4x128_S1x4x128_1_2
        (shapeCast S4x128 b shapeCasts_S1x4x128_S4x128)⟩,
      ⟨S1x4x128, broadcastInDim S1x4x128 ![1, 2] bcast_S4x128_S1x4x128_1_2
        (shapeCast S4x128 (broadcastInDim S1x4x32x4 ![0, 1, 2, 3] bcast_S1x4x1x4_S1x4x32x4_0_1_2_3
          (shapeCast S1x4x1x4 (extractStridedSlice S4x4 ![0, 0]
            (shapeCast S4x128 b shapeCasts_S1x4x128_S4x128) slices_S4x128_S4x4_0_0)
            shapeCasts_S4x4_S1x4x1x4)) shapeCasts_S1x4x32x4_S4x128)⟩]
    concatenates_S1x4x128_S1x4x128_S2x4x128_d0)

theorem tabB_zero (b : S1x4x128.Idx → EReal) (h : Fin 4) (p : Fin 128) :
    tabB b (ix4 0 h p 0) = b (ix3 0 h p) := by
  pointwise [tabB]

theorem tabB_one (b : S1x4x128.Idx → EReal) (h : Fin 4) (p : Fin 128) :
    tabB b (ix4 1 h p 0) = b (ix3 0 h ⟨p.val % 4, by omega⟩) := by
  pointwise [tabB]

theorem v8_eq (c : Dev nD) : V m c main_v8 = tabW (m ((c.tc : Thread nD τ).loc main_arg3)) := by
  show StableHlo.after hostOps0 _ (Proc.devRef .tc main_v8) = _
  after_results
  rfl

theorem v18_eq (c : Dev nD) : V m c main_v18 = tabB (m ((c.tc : Thread nD τ).loc main_arg4)) := by
  show StableHlo.after hostOps0 _ (Proc.devRef .tc main_v18) = _
  after_results
  rfl

theorem win0_facts : ∀ t : Fin cfg0.N, win0_0.index t (0 : Fin 2) = t.val ∧ win0_0.index t (1 : Fin 2) = 5 := by
  decide +kernel
theorem win1_facts : ∀ t : Fin cfg0.N, win0_1.index t (0 : Fin 2) = t.val ∧ win0_1.index t (1 : Fin 2) = 6 := by
  decide +kernel
theorem win2_facts : ∀ t : Fin cfg0.N, win0_2.index t (0 : Fin 2) = 0 ∧ win0_2.index t (1 : Fin 2) = 0 := by
  decide +kernel
theorem win3_facts : ∀ t : Fin cfg0.N, win0_3.index t (0 : Fin 2) = 0 ∧ win0_3.index t (1 : Fin 2) = 0 := by
  decide +kernel
theorem win4_facts : ∀ t : Fin cfg0.N, win0_4.index t (0 : Fin 4) = (if t.val < 128 then 0 else 1)
    ∧ win0_4.index t (1 : Fin 4) = 0 ∧ win0_4.index t (2 : Fin 4) = 0 ∧ win0_4.index t (3 : Fin 4) = 0 := by
  decide +kernel
theorem win5_facts : ∀ t : Fin cfg0.N, win0_5.index t (0 : Fin 4) = (if t.val < 128 then 0 else 1)
    ∧ win0_5.index t (1 : Fin 4) = 0 ∧ win0_5.index t (2 : Fin 4) = 0 ∧ win0_5.index t (3 : Fin 4) = 0 := by
  decide +kernel
theorem win6_facts : ∀ t : Fin cfg0.N, win0_6.index t (0 : Fin 2) = t.val ∧ win0_6.index t (1 : Fin 2) = 0 := by
  decide +kernel
theorem win7_facts : ∀ t : Fin cfg0.N, win0_7.index t (0 : Fin 2) = t.val - 127 ∧ win0_7.index t (1 : Fin 2) = 0
    ∧ ((cfg0.win 7).flush t = true ↔ 127 ≤ t.val) := by
  decide +kernel

theorem u_apply (c : Dev nD) (t : Fin cfg0.N) (p : Fin 128) (k : Fin 1024) (r : Fin 16896) (j : Fin 7680)
    (hr : r.val = t.val * 128 + p.val) (hj : j.val = 5120 + k.val) :
    X0_0 m c t (ix2 p k) = m ((c.tc : Thread nD τ).loc main_arg0) (ix2 r j) := by
  rw [← V_main_arg0 m c]
  unfold X0_0 Pipeline.Window.fill
  rw [dif_pos (moved0_0 t (ix2 p k))]
  show V m c main_arg0 ((win0_0.rect t).idx _) = V m c main_arg0 (ix2 r j)
  refine congrArg _ (funext fun a => Fin.ext ?_)
  obtain ⟨e0, e1⟩ := win0_facts t
  match a with
  | ⟨0, _⟩ => show win0_0.index t (0 : Fin 2) * 128 + 1 * p.val = r.val; omega
  | ⟨1, _⟩ => show win0_0.index t (1 : Fin 2) * 1024 + 1 * k.val = j.val; omega

theorem v_apply (c : Dev nD) (t : Fin cfg0.N) (p : Fin 128) (k : Fin 1024) (r : Fin 16896) (j : Fin 7680)
    (hr : r.val = t.val * 128 + p.val) (hj : j.val = 6144 + k.val) :
    X0_1 m c t (ix2 p k) = m ((c.tc : Thread nD τ).loc main_arg0) (ix2 r j) := by
  rw [← V_main_arg0 m c]
  unfold X0_1 Pipeline.Window.fill
  rw [dif_pos (moved0_1 t (ix2 p k))]
  show V m c main_arg0 ((win0_1.rect t).idx _) = V m c main_arg0 (ix2 r j)
  refine congrArg _ (funext fun a => Fin.ext ?_)
  obtain ⟨e0, e1⟩ := win1_facts t
  match a with
  | ⟨0, _⟩ => show win0_1.index t (0 : Fin 2) * 128 + 1 * p.val = r.val; omega
  | ⟨1, _⟩ => show win0_1.index t (1 : Fin 2) * 1024 + 1 * k.val = j.val; omega

theorem g_apply (c : Dev nD) (t : Fin cfg0.N) (k : Fin 1024) :
    iblk m c 2 t (ix2 0 k) = m ((c.tc : Thread nD τ).loc main_arg1) (ix2 0 k) := by
  rw [← V_main_arg1 m c]
  show V m c main_arg1 ((win0_2.rect t).idx (ix2 0 k)) = V m c main_arg1 (ix2 0 k)
  refine congrArg _ (funext fun a => Fin.ext ?_)
  obtain ⟨e0, e1⟩ := win2_facts t
  match a with
  | ⟨0, _⟩ => show win0_2.index t (0 : Fin 2) * 1 + 1 * 0 = 0; omega
  | ⟨1, _⟩ => show win0_2.index t (1 : Fin 2) * 1024 + 1 * k.val = k.val; omega

theorem b_apply (c : Dev nD) (t : Fin cfg0.N) (k : Fin 1024) :
    iblk m c 3 t (ix2 0 k) = m ((c.tc : Thread nD τ).loc main_arg2) (ix2 0 k) := by
  rw [← V_main_arg2 m c]
  show V m c main_arg2 ((win0_3.rect t).idx (ix2 0 k)) = V m c main_arg2 (ix2 0 k)
  refine congrArg _ (funext fun a => Fin.ext ?_)
  obtain ⟨e0, e1⟩ := win3_facts t
  match a with
  | ⟨0, _⟩ => show win0_3.index t (0 : Fin 2) * 1 + 1 * 0 = 0; omega
  | ⟨1, _⟩ => show win0_3.index t (1 : Fin 2) * 1024 + 1 * k.val = k.val; omega

theorem w_apply (c : Dev nD) (t : Fin cfg0.N) (i : Fin 2) (hi : i.val = if t.val < 128 then 0 else 1) (h : Fin 4)
    (p s : Fin 128) :
    iblk m c 4 t (ix4 0 h p s) = tabW (m ((c.tc : Thread nD τ).loc main_arg3)) (ix4 i h p s) := by
  rw [← v8_eq m c]
  show V m c main_v8 ((win0_4.rect t).idx (ix4 0 h p s)) = V m c main_v8 (ix4 i h p s)
  refine congrArg _ (funext fun a => Fin.ext ?_)
  obtain ⟨e0, e1, e2, e3⟩ := win4_facts t
  match a with
  | ⟨0, _⟩ => show win0_4.index t (0 : Fin 4) * 1 + 1 * 0 = i.val; omega
  | ⟨1, _⟩ => show win0_4.index t (1 : Fin 4) * 4 + 1 * h.val = h.val; omega
  | ⟨2, _⟩ => show win0_4.index t (2 : Fin 4) * 128 + 1 * p.val = p.val; omega
  | ⟨3, _⟩ => show win0_4.index t (3 : Fin 4) * 128 + 1 * s.val = s.val; omega

theorem o_apply (c : Dev nD) (t : Fin cfg0.N) (i : Fin 2) (hi : i.val = if t.val < 128 then 0 else 1) (h : Fin 4)
    (p : Fin 128) :
    iblk m c 5 t (ix4 0 h p 0) = tabB (m ((c.tc : Thread nD τ).loc main_arg4)) (ix4 i h p 0) := by
  rw [← v18_eq m c]
  show V m c main_v18 ((win0_5.rect t).idx (ix4 0 h p 0)) = V m c main_v18 (ix4 i h p 0)
  refine congrArg _ (funext fun a => Fin.ext ?_)
  obtain ⟨e0, e1, e2, e3⟩ := win5_facts t
  match a with
  | ⟨0, _⟩ => show win0_5.index t (0 : Fin 4) * 1 + 1 * 0 = i.val; omega
  | ⟨1, _⟩ => show win0_5.index t (1 : Fin 4) * 4 + 1 * h.val = h.val; omega
  | ⟨2, _⟩ => show win0_5.index t (2 : Fin 4) * 128 + 1 * p.val = p.val; omega
  | ⟨3, _⟩ => show win0_5.index t (3 : Fin 4) * 1 + 1 * 0 = 0; omega

/-- The gated rows of the arguments on core `c`. -/
abbrev rows (c : Dev nD) : S16896x1024.Idx → EReal :=
  gated (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4))

/-- The normalised rows of the arguments on core `c`. -/
abbrev gates (c : Dev nD) : S16896x1024.Idx → EReal :=
  gate (m ((c.tc : Thread nD τ).loc main_arg0)) (m ((c.tc : Thread nD τ).loc main_arg1))
    (m ((c.tc : Thread nD τ).loc main_arg2))

/-- One entry of a point's normalised block, at its place. -/
theorem gates_apply (c : Dev nD) (t : Fin cfg0.N) (p : Fin 128) (r : Fin 16896) (j : Fin 1024)
    (hr : r.val = t.val * 128 + p.val) :
    k0_pay3 (F := Ideal) (k0_pay2 (F := Ideal) (X0_1 m c t) (iblk m c 2 t)) (iblk m c 3 t) (ix2 p j)
      = gates m c (ix2 r j) := by
  refine (norm_apply _ _ _ p j).trans ?_
  show _ = lnorm _ _ _ j
  congr 1 <;> funext l
  · exact congrArg gelu (v_apply m c t p l r _ hr rfl)
  · exact g_apply m c t l
  · exact b_apply m c t l

theorem select_if (q : Prop) [Decidable q] (a b : EReal) :
    Scalar.select (if q then (1#1 : BitVec 1) else 0#1) a b = if q then a else b := by
  by_cases h : q <;> simp [h, Scalar.select]

/-- One entry of a point's block of gated rows, at its place. -/
theorem rows_apply (c : Dev nD) (t : Fin cfg0.N) (p : Fin 128) (r : Fin 16896) (j : Fin 1024)
    (hr : r.val = t.val * 128 + p.val) : (outsAt0 m c t).1 (ix2 p j) = rows m c (ix2 r j) := by
  rw [out6]
  refine (blk_apply _ _ _ _ _ _ p j ⟨j.val / 256, by omega⟩ rfl).trans ?_
  rw [pay1_apply, u_apply m c t p j r ⟨5120 + j.val, by omega⟩ hr rfl]
  have hp := p.isLt
  by_cases h : t.val < 128
  · have h' : r.val < 16384 := by omega
    refine Eq.trans ?_ (gated_prompt _ _ _ _ _ r j h').symm
    refine congrArg (gelu _ * ·) ?_
    rw [o_apply m c t 0 (by simp [h]), tabB_zero]
    show _ = (∑ s : Fin 128, _) + _
    have ep : (⟨r.val % 128, by omega⟩ : Fin 128) = p := Fin.ext (by show r.val % 128 = p.val; omega)
    rw [ep]
    refine congrArg (· + _) (Finset.sum_congr rfl fun s _ => ?_)
    have hs := s.isLt
    rw [gates_apply m c t s ⟨r.val / 128 * 128 + s.val, by omega⟩ j (by show r.val / 128 * 128 + s.val = _; omega),
      mask_apply, if_pos h, msk_prompt, select_if, w_apply m c t 0 (by simp [h]), tabW_zero, mul_comm]
    rfl
  · have h' : ¬ r.val < 16384 := by omega
    refine Eq.trans ?_ (gated_sample _ _ _ _ _ r j h').symm
    refine congrArg (gelu _ * ·) ?_
    rw [o_apply m c t 1 (by simp [h]), tabB_one]
    show _ = (∑ s : Fin 4, _) + _
    have ep : (⟨p.val % 4, by omega⟩ : Fin 128) = ⟨(r.val - 16384) % 4, by omega⟩ :=
      Fin.ext (by show p.val % 4 = (r.val - 16384) % 4; omega)
    rw [ep]
    refine congrArg (· + _) (Eq.symm ?_)
    refine Fintype.sum_of_injective (fun s : Fin 4 => (⟨p.val / 4 * 4 + s.val, by omega⟩ : Fin 128)) ?_ _ _ ?_ ?_
    · intro a b e
      have e' : p.val / 4 * 4 + a.val = p.val / 4 * 4 + b.val := congrArg Fin.val e
      exact Fin.ext (by omega)
    · intro s hs
      have hs' : ¬ (s.val ≤ p.val ∧ s.val / 4 = p.val / 4) := fun e => hs ⟨⟨s.val % 4, by omega⟩,
        Fin.ext (by show p.val / 4 * 4 + s.val % 4 = s.val; omega)⟩
      rw [mask_apply, if_neg h, msk_sample, select_if, if_neg hs', zero_mul]
    · intro s
      have hs := s.isLt
      have hr' := r.isLt
      rw [gates_apply m c t ⟨p.val / 4 * 4 + s.val, by omega⟩ ⟨16384 + ((r.val - 16384) / 4 * 4 + s.val), by omega⟩ j
        (by show 16384 + ((r.val - 16384) / 4 * 4 + s.val) = t.val * 128 + (p.val / 4 * 4 + s.val); omega),
        mask_apply, if_neg h, msk_sample, select_if, w_apply m c t 1 (by simp [h]), tabW_one, mul_comm, ep]
      refine congrArg (· * _) ?_
      show ite _ _ _ = ite _ _ _
      refine if_congr ?_ (congrArg _ ?_) rfl
      · show s.val ≤ (r.val - 16384) % 4 ↔ p.val / 4 * 4 + s.val ≤ p.val ∧ (p.val / 4 * 4 + s.val) / 4 = p.val / 4
        omega
      · exact congrArg _ (Fin.ext (by show s.val = (p.val / 4 * 4 + s.val) % 4; omega))

theorem flushed6_eq (c : Dev nD) (t : Fin cfg0.N) :
    (dats m 0 c).flushed 6 t = ((cfg0.win 6).blk t).view.read (Elt Ideal) (rows m c) := by
  rw [Value.flushed6]
  funext y
  obtain ⟨e0, e1⟩ := win6_facts t
  show (outsAt0 m c t).1 y = rows m c ((win0_6.rect t).idx y)
  have hr : ((win0_6.rect t).idx y 0).val = win0_6.index t (0 : Fin 2) * 128 + 1 * (y 0).val := rfl
  have hj : ((win0_6.rect t).idx y 1).val = win0_6.index t (1 : Fin 2) * 1024 + 1 * (y 1).val := rfl
  generalize (win0_6.rect t).idx y = i at hr hj
  rw [e0] at hr
  rw [e1] at hj
  have h1 : (y 1 : Fin 1024) = (i 1 : Fin 1024) := Fin.ext (by omega)
  refine (congrArg (outsAt0 m c t).1 (eq_ix2 (n0 := 128) (n1 := 1024) y)).trans
    ((rows_apply m c t (y 0) (i 0) (y 1) (by omega)).trans
      (congrArg (rows m c) ((congrArg (ix2 (i 0)) h1).trans (eq_ix2 (n0 := 16896) (n1 := 1024) i).symm)))

/-- The state of the arguments on core `c`. -/
abbrev kept (c : Dev nD) : S640x1024.Idx → EReal :=
  state (m ((c.tc : Thread nD τ).loc main_arg0)) (m ((c.tc : Thread nD τ).loc main_arg1))
    (m ((c.tc : Thread nD τ).loc main_arg2))

theorem flushed7_eq (c : Dev nD) (t : Fin cfg0.N) (hf : (cfg0.win 7).flush t = true) :
    (dats m 0 c).flushed 7 t = ((cfg0.win 7).blk t).view.read (Elt Ideal) (kept m c) := by
  rw [Value.flushed7, out7]
  funext y
  obtain ⟨e0, e1, e2⟩ := win7_facts t
  have ht := e2.1 hf
  show k0_pay3 (F := Ideal) (k0_pay2 (F := Ideal) (X0_1 m c t) (iblk m c 2 t)) (iblk m c 3 t) y
    = kept m c ((win0_7.rect t).idx y)
  have hr : ((win0_7.rect t).idx y 0).val = win0_7.index t (0 : Fin 2) * 128 + 1 * (y 0).val := rfl
  have hj : ((win0_7.rect t).idx y 1).val = win0_7.index t (1 : Fin 2) * 1024 + 1 * (y 1).val := rfl
  generalize (win0_7.rect t).idx y = i at hr hj
  rw [e0] at hr
  rw [e1] at hj
  have h1 : (y 1 : Fin 1024) = (i 1 : Fin 1024) := Fin.ext (by omega)
  have hi : (i 0).val < 640 := (i 0).isLt
  refine (congrArg _ (eq_ix2 (n0 := 128) (n1 := 1024) y)).trans
    ((gates_apply m c t (y 0) ⟨16256 + (i 0).val, by omega⟩ (y 1) (by show 16256 + (i 0).val = _; omega)).trans
      (congrArg (fun k => gates m c (ix2 _ k)) h1))

theorem cover6 (i : S16896x1024.Idx) :
    ∃ t : Fin cfg0.N, (cfg0.win 6).flush t = true ∧ i ∈ ((cfg0.win 6).blk t).view.set := by
  have hi : (i 0).val < 16896 := (i 0).isLt
  have hi1 : (i 1).val < 1024 := (i 1).isLt
  obtain ⟨t, ht⟩ : ∃ t : Fin cfg0.N, t.val = (i 0).val / 128 := ⟨⟨(i 0).val / 128, by show _ < grid0.N; rw [N_0]; omega⟩, rfl⟩
  obtain ⟨e0, e1⟩ := win6_facts t
  refine ⟨t, flush0_6 t, ?_⟩
  show i ∈ ((View.whole main_v19_0).slice (win0_6.rect t)).set
  rw [View.set_slice_whole, Rect.mem_set_unit]
  intro a
  match a with
  | ⟨0, _⟩ => exact ⟨by show win0_6.index t (0 : Fin 2) * 128 ≤ (i 0).val; omega,
      by show (i 0).val < win0_6.index t (0 : Fin 2) * 128 + 128; omega⟩
  | ⟨1, _⟩ => exact ⟨by show win0_6.index t (1 : Fin 2) * 1024 ≤ (i 1).val; omega,
      by show (i 1).val < win0_6.index t (1 : Fin 2) * 1024 + 1024; omega⟩

theorem cover7 (i : S640x1024.Idx) :
    ∃ t : Fin cfg0.N, (cfg0.win 7).flush t = true ∧ i ∈ ((cfg0.win 7).blk t).view.set := by
  have hi : (i 0).val < 640 := (i 0).isLt
  have hi1 : (i 1).val < 1024 := (i 1).isLt
  obtain ⟨t, ht⟩ : ∃ t : Fin cfg0.N, t.val = 127 + (i 0).val / 128 :=
    ⟨⟨127 + (i 0).val / 128, by show _ < grid0.N; rw [N_0]; omega⟩, rfl⟩
  obtain ⟨e0, e1, e2⟩ := win7_facts t
  refine ⟨t, e2.2 (by omega), ?_⟩
  show i ∈ ((View.whole main_v19_1).slice (win0_7.rect t)).set
  rw [View.set_slice_whole, Rect.mem_set_unit]
  intro a
  match a with
  | ⟨0, _⟩ => exact ⟨by show win0_7.index t (0 : Fin 2) * 128 ≤ (i 0).val; omega,
      by show (i 0).val < win0_7.index t (0 : Fin 2) * 128 + 128; omega⟩
  | ⟨1, _⟩ => exact ⟨by show win0_7.index t (1 : Fin 2) * 1024 ≤ (i 1).val; omega,
      by show (i 1).val < win0_7.index t (1 : Fin 2) * 1024 + 1024; omega⟩

end Cert.GmlpKernelIdeal.Mix

namespace Cert.GmlpReferenceIdeal.Mix

open Cert.GmlpReferenceIdeal Cert.GmlpReferenceIdeal.Gen Cert.GmlpReferenceIdeal.Read Cert.Gmlp

theorem unit_eq (x : EReal) : Ideal.ofBits .f32 0x3F000000#32 * x * Ideal.erfc (-x * Ideal.ofBits .f32 0x3F3504F3#32)
    = gelu x := by
  rw [EReal.neg_mul, Ideal.erfc_neg]
  rfl

theorem u_apply (x0 : S16896x7680.Idx → EReal) (r : Fin 16896) (j : Fin 1024) :
    val_main_v8 (F := Ideal) x0 (ix2 r j) = gelu (x0 (ix2 r ⟨5120 + j.val, by omega⟩)) := by
  rw [← unit_eq]
  pointwise [val_main_v8, val_main_v7, val_main_v6, val_main_v5, val_main_v4, val_main_v3, val_main_v2, val_main_v1,
    val_main_v0, val_main_cst, val_main_cst_0]

theorem v_apply (x0 : S16896x7680.Idx → EReal) (r : Fin 16896) (j : Fin 1024) :
    val_main_v16 (F := Ideal) x0 (ix2 r j) = gelu (x0 (ix2 r ⟨6144 + j.val, by omega⟩)) := by
  rw [← unit_eq]
  pointwise [val_main_v16, val_main_v15, val_main_v14, val_main_v13, val_main_v12, val_main_v11, val_main_v10,
    val_main_v9, val_main_v0, val_main_cst_1, val_main_cst_2]

theorem gate_apply (x0 : S16896x7680.Idx → EReal) (x1 x2 : S1x1024.Idx → EReal) (r : Fin 16896) (j : Fin 1024) :
    val_main_v42 (F := Ideal) x0 x1 x2 (ix2 r j) = gate x0 x1 x2 (ix2 r j) := by
  show _ = lnorm (fun l => gelu (x0 (ix2 r ⟨6144 + l.val, by omega⟩))) _ _ j
  simp only [← v_apply]
  unfold val_main_v42 val_main_v38 val_main_v34 val_main_v33 val_main_v32 val_main_v31 val_main_v29 val_main_v28
    val_main_v27 val_main_v25 val_main_v24 val_main_v23 val_main_v22 val_main_v21 val_main_v20 val_main_v18 val_main_v17
  generalize val_main_v16 (F := Ideal) x0 = h
  pointwise [val_main_v41, val_main_v40, val_main_v39, val_main_v37, val_main_v36, val_main_v35, val_main_v30,
    val_main_v26, val_main_v19, val_main_cst_3, val_main_cst_4, val_main_cst_5, val_main_cst_6, val_main_cst_7, lnorm, mean]

theorem sge_eq : ∀ t s : Fin 128, IntOp.cmpi CmpIPredicate.sge (IntOp.addi (BitVec.ofNat 32 t.val) 0#32) (BitVec.ofNat 32 s.val)
    = if s.val ≤ t.val then 1#1 else 0#1 := by
  decide +kernel

theorem select_if (q : Prop) [Decidable q] (a b : EReal) :
    Scalar.select (if q then (1#1 : BitVec 1) else 0#1) a b = if q then a else b := by
  by_cases h : q <;> simp [h, Scalar.select]

theorem tril_apply (x3 : S1x4x128x128.Idx → EReal) (h : Fin 4) (t s : Fin 128) :
    val_main_v48 (F := Ideal) x3 (ix3 h t s) = if s.val ≤ t.val then x3 (ix4 0 h t s) else 0 := by
  pointwise [val_main_v48, val_main_v47, val_main_v46, val_main_v45, val_main_v44, val_main_v43, val_main_call0_v5,
    val_main_call0_v4, val_main_call0_v3, val_main_call0_v2, val_main_call0_v1, val_main_call0_v0, val_main_call0_c,
    val_main_call0_cst, val_main_cst_8]
  rw [sge_eq, select_if]

theorem mix_prompt (x0 : S16896x7680.Idx → EReal) (x1 x2 : S1x1024.Idx → EReal) (x3 : S1x4x128x128.Idx → EReal)
    (x4 : S1x4x128.Idx → EReal) (r : Fin 16896) (j : Fin 1024) (hr : r.val < 16384) :
    val_main_v70 (F := Ideal) x0 x1 x2 x3 x4 (ix2 r j)
      = mixP (gate x0 x1 x2) x3 x4 ⟨r.val / 128, by omega⟩ ⟨r.val % 128, by omega⟩ j := by
  unfold mixP wt
  simp only [← gate_apply]
  unfold val_main_v70 val_main_v68 val_main_v60 val_main_v57 val_main_v56 val_main_v53 val_main_v52
  generalize val_main_v69 (F := Ideal) x0 x1 x2 x3 x4 = y
  generalize val_main_v42 (F := Ideal) x0 x1 x2 = v
  have hw := tril_apply x3
  generalize val_main_v48 (F := Ideal) x3 = w at hw ⊢
  pointwise [val_main_v59, val_main_v58, val_main_v51, val_main_v50, val_main_v49, hr]
  simp only [hw]

/-- A sample's normalised rows, split into tokens and heads. -/
theorem split_apply (x0 : S16896x7680.Idx → EReal) (x1 x2 : S1x1024.Idx → EReal) (n : Fin 128) (s : Fin 4) (h : Fin 4)
    (k : Fin 256) (r : Fin 16896) (j : Fin 1024) (hr : r.val = 16384 + (n.val * 4 + s.val)) (hj : j.val = h.val * 256 + k.val) :
    val_main_v55 (F := Ideal) x0 x1 x2 (ix4 n s h k) = gate x0 x1 x2 (ix2 r j) := by
  rw [val_main_v55_apply, val_main_v54_apply, ← gate_apply]
  refine congrArg _ (funext fun a => Fin.ext ?_)
  have hs := s.isLt
  have hh := h.isLt
  have hk := k.isLt
  match a with
  | ⟨0, _⟩ => show 16384 + (((n.val * 4 + s.val) * 4 + h.val) * 256 + k.val) / 1024 = r.val; omega
  | ⟨1, _⟩ => show (((n.val * 4 + s.val) * 4 + h.val) * 256 + k.val) % 1024 = j.val; omega

theorem mixed_sample (x0 : S16896x7680.Idx → EReal) (x1 x2 : S1x1024.Idx → EReal) (x3 : S1x4x128x128.Idx → EReal)
    (x4 : S1x4x128.Idx → EReal) (n : Fin 128) (t : Fin 4) (h : Fin 4) (k : Fin 256) :
    val_main_v67 (F := Ideal) x0 x1 x2 x3 x4 (ix4 n t h k)
      = (∑ s : Fin 4, val_main_v55 (F := Ideal) x0 x1 x2 (ix4 n s h k)
        * val_main_v48 (F := Ideal) x3 (ix3 h ⟨t.val, by omega⟩ ⟨s.val, by omega⟩)) + x4 (ix3 0 h ⟨t.val, by omega⟩) := by
  unfold val_main_v67 val_main_v63 val_main_v62 val_main_v61
  generalize val_main_v55 (F := Ideal) x0 x1 x2 = v
  generalize val_main_v48 (F := Ideal) x3 = w
  pointwise [val_main_v66, val_main_v65, val_main_v64, val_main_v51, val_main_v50, val_main_v49]

theorem mix_sample (x0 : S16896x7680.Idx → EReal) (x1 x2 : S1x1024.Idx → EReal) (x3 : S1x4x128x128.Idx → EReal)
    (x4 : S1x4x128.Idx → EReal) (r : Fin 16896) (j : Fin 1024) (hr : ¬ r.val < 16384) :
    val_main_v70 (F := Ideal) x0 x1 x2 x3 x4 (ix2 r j)
      = mixS (gate x0 x1 x2) x3 x4 ⟨(r.val - 16384) / 4, by omega⟩ ⟨(r.val - 16384) % 4, by omega⟩ j := by
  have e : val_main_v70 (F := Ideal) x0 x1 x2 x3 x4 (ix2 r j)
      = val_main_v69 (F := Ideal) x0 x1 x2 x3 x4 (ix2 ⟨r.val - 16384, by omega⟩ j) := by
    unfold val_main_v70
    generalize val_main_v68 (F := Ideal) x0 x1 x2 x3 x4 = y
    generalize val_main_v69 (F := Ideal) x0 x1 x2 x3 x4 = y'
    pointwise [hr]
  have e' : idx_main_v69 (ix2 ⟨r.val - 16384, by omega⟩ j) = ix4 ⟨(r.val - 16384) / 4, by omega⟩ ⟨(r.val - 16384) % 4, by omega⟩
      ⟨j.val / 256, by omega⟩ ⟨j.val % 256, by omega⟩ := by
    refine funext fun a => Fin.ext ?_
    have hj := j.isLt
    match a with
    | ⟨0, _⟩ => show ((r.val - 16384) * 1024 + j.val) / 4096 = (r.val - 16384) / 4; omega
    | ⟨1, _⟩ => show ((r.val - 16384) * 1024 + j.val) / 1024 % 4 = (r.val - 16384) % 4; omega
    | ⟨2, _⟩ => show ((r.val - 16384) * 1024 + j.val) / 256 % 4 = j.val / 256; omega
    | ⟨3, _⟩ => show ((r.val - 16384) * 1024 + j.val) % 256 = j.val % 256; omega
  rw [e, val_main_v69_apply, e', mixed_sample]
  unfold mixS wt
  refine congrArg (· + _) (Finset.sum_congr rfl fun s _ => ?_)
  rw [split_apply x0 x1 x2 _ s _ _ ⟨16384 + ((r.val - 16384) / 4 * 4 + s.val), by omega⟩ j rfl
    (by show j.val = j.val / 256 * 256 + j.val % 256; omega), tril_apply]

/-- The reference's gated rows. -/
theorem gated_apply (x0 : S16896x7680.Idx → EReal) (x1 x2 : S1x1024.Idx → EReal) (x3 : S1x4x128x128.Idx → EReal)
    (x4 : S1x4x128.Idx → EReal) (r : Fin 16896) (j : Fin 1024) :
    val_main_v72 (F := Ideal) x0 x1 x2 x3 x4 (ix2 r j) = gated x0 x1 x2 x3 x4 (ix2 r j) := by
  rw [val_main_v72_apply, val_main_v71_apply, u_apply]
  by_cases h : r.val < 16384
  · rw [mix_prompt _ _ _ _ _ r j h]
    exact (gated_prompt _ _ _ _ _ r j h).symm
  · rw [mix_sample _ _ _ _ _ r j h]
    exact (gated_sample _ _ _ _ _ r j h).symm

/-- The reference's state. -/
theorem state_apply (x0 : S16896x7680.Idx → EReal) (x1 x2 : S1x1024.Idx → EReal) (r : Fin 640) (j : Fin 1024) :
    val_main_v73 (F := Ideal) x0 x1 x2 (ix2 r j) = state x0 x1 x2 (ix2 r j) := by
  refine Eq.trans ?_ (gate_apply x0 x1 x2 ⟨16256 + r.val, by omega⟩ j)
  unfold val_main_v73
  generalize val_main_v42 (F := Ideal) x0 x1 x2 = v
  pointwise []

end Cert.GmlpReferenceIdeal.Mix

namespace Cert.Proof

/-- Over the extended reals the kernel's gated rows and state are the reference's. -/
theorem gmlp_algebraic : Cert.algebraic_GmlpKernelIdeal_GmlpReferenceIdeal
    (hGmlpKernelIdeal := Cert.GmlpKernelIdeal.Gen.facts) (hGmlpReferenceIdeal := Cert.GmlpReferenceIdeal.Gen.facts) := by
  intro m g m' g' _ hargs
  refine ⟨fun c => Cert.GmlpKernelIdeal.Mix.rows m c, fun c => Cert.GmlpKernelIdeal.Mix.kept m c, ?_, ?_⟩
  · exact (θ_run Cert.GmlpKernelIdeal.defs _ _).mono (fun _ h c =>
      ⟨(h c).1.trans ((Cert.GmlpKernelIdeal.Gen.dats m 0 c).arrAt_eq_of_cover 6 _
          (fun t _ => Cert.GmlpKernelIdeal.Mix.flushed6_eq m c t) Cert.GmlpKernelIdeal.Mix.cover6),
        (h c).2.1.trans ((Cert.GmlpKernelIdeal.Gen.dats m 0 c).arrAt_eq_of_cover 7 _
          (fun t hf => Cert.GmlpKernelIdeal.Mix.flushed7_eq m c t hf) Cert.GmlpKernelIdeal.Mix.cover7), (h c).2.2⟩)
      (Cert.GmlpKernelIdeal.Value.run_blocks m g)
  refine (θ_run Cert.GmlpReferenceIdeal.defs _ _).mono (fun r h c => ⟨?_, ?_, (h c).2.2⟩)
    (Cert.GmlpReferenceIdeal.Value.run (F := Ideal) m' g')
  · refine (h c).1.trans ((Cert.GmlpReferenceIdeal.Read.val_main_v72_eq (F := Ideal) _ _).trans ?_)
    obtain ⟨a0, a1, a2, a3, a4⟩ := hargs c
    rw [a0, a1, a2, a3, a4]
    refine funext fun y => ?_
    exact (congrArg _ (eq_ix2 (n0 := 16896) (n1 := 1024) y)).trans
      ((Cert.GmlpReferenceIdeal.Mix.gated_apply _ _ _ _ _ (y 0) (y 1)).trans
        (congrArg _ (eq_ix2 (n0 := 16896) (n1 := 1024) y).symm))
  · refine (h c).2.1.trans ((Cert.GmlpReferenceIdeal.Read.val_main_v73_eq (F := Ideal) _ _).trans ?_)
    obtain ⟨a0, a1, a2, a3, a4⟩ := hargs c
    rw [a0, a1, a2]
    refine funext fun y => ?_
    exact (congrArg _ (eq_ix2 (n0 := 640) (n1 := 1024) y)).trans
      ((Cert.GmlpReferenceIdeal.Mix.state_apply _ _ _ (y 0) (y 1)).trans
        (congrArg _ (eq_ix2 (n0 := 640) (n1 := 1024) y).symm))

end Cert.Proof

end
-- ==== Proof.Merge.lean ====
/-
  The merge: the attention's and the gated unit's rows are taken through their output weights, weighed by the logistic of
  their gates, added, taken through the joint output weight and added to the token; and that sum's row is scaled to unit
  root mean square. Both programs are shown to leave those two arrays.
-/
module

public import proofs.«01_k».proof.Defs
public import proofs.«01_k».proof.Proof.Inproj
public import proofs.«01_k».proof.Proof.Gen.MergeKernelIdeal.Value
public import proofs.«01_k».proof.Proof.Gen.MergeReferenceIdeal.Run
public import proofs.«01_k».proof.Proof.Gen.MergeReferenceIdeal.Read
public import Idealize.ShloMosaic.Lib.Pipeline.Value
public import Idealize.ShloMosaic.Lib.Pipeline.ValueKit.Tiles
public import Idealize.ShloMosaic.Lib.Pointwise
public import Idealize.ShloMosaic.Lib.ValueIdx
public import Idealize.ShloMosaic.PureOps.Ideal.Laws
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Merge

open Cert.Inproj (scaled tok)

/-- One entry of a merged row. -/
def mixed (attn gm : Fin 1024 → EReal) (ga gb x : Fin 2048 → EReal) (wa wg : Fin 1024 → Fin 2048 → EReal)
    (wo : Fin 2048 → Fin 2048 → EReal) (j : Fin 2048) : EReal :=
  x j + ∑ k : Fin 2048, (Ideal.logistic (ga k) * (∑ l : Fin 1024, attn l * wa l k)
    + Ideal.logistic (gb k) * (∑ l : Fin 1024, gm l * wg l k)) * wo k j

/-- The merged rows. -/
def hid (attn gm : (⟨2, ![16896, 1024]⟩ : Shape).Idx → EReal) (z : (⟨2, ![16896, 7680]⟩ : Shape).Idx → EReal)
    (a : (⟨3, ![1, 16384, 2048]⟩ : Shape).Idx → EReal) (b : (⟨3, ![128, 4, 2048]⟩ : Shape).Idx → EReal)
    (wa wg : (⟨3, ![1, 1024, 2048]⟩ : Shape).Idx → EReal) (wo : (⟨3, ![1, 2048, 2048]⟩ : Shape).Idx → EReal) :
    (⟨2, ![16896, 2048]⟩ : Shape).Idx → EReal := fun i =>
  mixed (fun l => attn (ix2 (i 0) l)) (fun l => gm (ix2 (i 0) l))
    (fun k => z (ix2 (i 0) ⟨k.val, by omega⟩)) (fun k => z (ix2 (i 0) ⟨2048 + k.val, by omega⟩)) (tok a b (i 0))
    (fun l k => wa (ix3 0 l k)) (fun l k => wg (ix3 0 l k)) (fun k j => wo (ix3 0 k j)) (i 1)

/-- The merged rows, each scaled to unit root mean square and by the gain. -/
def normed (h : (⟨2, ![16896, 2048]⟩ : Shape).Idx → EReal) (g : (⟨2, ![1, 2048]⟩ : Shape).Idx → EReal) :
    (⟨2, ![16896, 2048]⟩ : Shape).Idx → EReal := fun i =>
  scaled (fun l => h (ix2 (i 0) l)) (fun l => g (ix2 0 l)) (i 1)

end Cert.Merge

namespace Cert.MergeKernelIdeal.Mix

open Cert.MergeKernelIdeal Cert.MergeKernelIdeal.Gen Cert.Merge
open Cert.Inproj (scaled tok)

variable (m : (ℓ : Loc nD τ sig) → Buf (Elt Ideal) ℓ) (ρ : Dev nD → PrngReg)

theorem pay2_apply (a : Vec Ideal S256x1024 .bf16) (wa : Vec Ideal S1024x2048 .bf16) (b : Vec Ideal S256x1024 .bf16)
    (wb : Vec Ideal S1024x2048 .bf16) (ga gb : Vec Ideal S256x2048 .bf16) (x : Vec Ideal S256x2048 .f32)
    (wo : Vec Ideal S2048x2048 .bf16) (r : Fin 256) (j : Fin 2048) :
    k0_pay2 (F := Ideal) a wa b wb ga gb x wo (ix2 r j)
      = mixed (fun l => a (ix2 r l)) (fun l => b (ix2 r l)) (fun k => ga (ix2 r k)) (fun k => gb (ix2 r k))
        (fun k => x (ix2 r k)) (fun l k => wa (ix2 l k)) (fun l k => wb (ix2 l k)) (fun k j => wo (ix2 k j)) j := by
  pointwise [k0_pay2, mixed]

theorem pay1_apply (h : Vec Ideal S256x2048 .f32) (g : Vec Ideal S1x2048 .f32) (s : Vec Ideal S256x1 .f32)
    (r : Fin 256) (k : Fin 2048) :
    k0_pay1 (F := Ideal) h g s (k0_pay4 (F := Ideal)) (ix2 r k)
      = h (ix2 r k) * Ideal.rsqrt (s (ix2 r 0) + Ideal.ofBits .f32 0x358637BD#32) * g (ix2 0 k) := by
  pointwise [k0_pay1, k0_pay4]

theorem pay3_apply (a : Vec Ideal S256x1024 .bf16) (wa : Vec Ideal S1024x2048 .bf16) (b : Vec Ideal S256x1024 .bf16)
    (wb : Vec Ideal S1024x2048 .bf16) (ga gb : Vec Ideal S256x2048 .bf16) (x : Vec Ideal S256x2048 .f32)
    (wo : Vec Ideal S2048x2048 .bf16) (r : Fin 256) :
    k0_pay3 (F := Ideal) a wa b wb ga gb x wo (ix2 r 0)
      = Ideal.div (∑ l : Fin 2048, k0_pay2 (F := Ideal) a wa b wb ga gb x wo (ix2 r l)
          * k0_pay2 (F := Ideal) a wa b wb ga gb x wo (ix2 r l)) (Ideal.ofBits .f32 0x45000000#32) := by
  unfold k0_pay3
  generalize k0_pay2 (F := Ideal) a wa b wb ga gb x wo = h
  pointwise

/-- A point's block of merged rows. -/
def rows (c : Dev nD) (t : Fin cfg0.N) : Vec Ideal S256x2048 .f32 :=
  k0_pay2 (F := Ideal) (iblk m c 0 t) (iblk m c 5 t) (iblk m c 1 t) (iblk m c 6 t) (X0_2 m c t) (X0_3 m c t)
    (iblk m c 4 t) (iblk m c 7 t)

theorem out9 (c : Dev nD) (t : Fin cfg0.N) : (outsAt0 m c t).1 = rows m c t := by
  unfold outsAt0 rows
  frame_out

theorem out10 (c : Dev nD) (t : Fin cfg0.N) : (outsAt0 m c t).2
    = k0_pay1 (F := Ideal) (rows m c t) (iblk m c 8 t)
      (k0_pay3 (F := Ideal) (iblk m c 0 t) (iblk m c 5 t) (iblk m c 1 t) (iblk m c 6 t) (X0_2 m c t) (X0_3 m c t)
        (iblk m c 4 t) (iblk m c 7 t)) (k0_pay4 (F := Ideal)) := by
  unfold outsAt0 rows
  frame_out

theorem win0_facts : ∀ t : Fin cfg0.N, win0_0.index t (0 : Fin 2) = t.val ∧ win0_0.index t (1 : Fin 2) = 0 := by
  decide +kernel
theorem win1_facts : ∀ t : Fin cfg0.N, win0_1.index t (0 : Fin 2) = t.val ∧ win0_1.index t (1 : Fin 2) = 0 := by
  decide +kernel
theorem win2_facts : ∀ t : Fin cfg0.N, win0_2.index t (0 : Fin 2) = t.val ∧ win0_2.index t (1 : Fin 2) = 0 := by
  decide +kernel
theorem win3_facts : ∀ t : Fin cfg0.N, win0_3.index t (0 : Fin 2) = t.val ∧ win0_3.index t (1 : Fin 2) = 1 := by
  decide +kernel
theorem win4_facts : ∀ t : Fin cfg0.N, win0_4.index t (0 : Fin 2) = t.val ∧ win0_4.index t (1 : Fin 2) = 0 := by
  decide +kernel
theorem win5_facts : ∀ t : Fin cfg0.N, win0_5.index t (0 : Fin 2) = 0 ∧ win0_5.index t (1 : Fin 2) = 0 := by
  decide +kernel
theorem win6_facts : ∀ t : Fin cfg0.N, win0_6.index t (0 : Fin 2) = 0 ∧ win0_6.index t (1 : Fin 2) = 0 := by
  decide +kernel
theorem win7_facts : ∀ t : Fin cfg0.N, win0_7.index t (0 : Fin 2) = 0 ∧ win0_7.index t (1 : Fin 2) = 0 := by
  decide +kernel
theorem win8_facts : ∀ t : Fin cfg0.N, win0_8.index t (0 : Fin 2) = 0 ∧ win0_8.index t (1 : Fin 2) = 0 := by
  decide +kernel
theorem win9_facts : ∀ t : Fin cfg0.N, win0_9.index t (0 : Fin 2) = t.val ∧ win0_9.index t (1 : Fin 2) = 0 := by
  decide +kernel
theorem win10_facts : ∀ t : Fin cfg0.N, win0_10.index t (0 : Fin 2) = t.val ∧ win0_10.index t (1 : Fin 2) = 0 := by
  decide +kernel

theorem attn_apply (c : Dev nD) (t : Fin cfg0.N) (p : Fin 256) (l : Fin 1024) (r : Fin 16896)
    (hr : r.val = t.val * 256 + p.val) :
    iblk m c 0 t (ix2 p l) = m ((c.tc : Thread nD τ).loc main_arg0) (ix2 r l) := by
  rw [← V_main_arg0 m c]
  show V m c main_arg0 ((win0_0.rect t).idx (ix2 p l)) = V m c main_arg0 (ix2 r l)
  refine congrArg _ (funext fun a => Fin.ext ?_)
  obtain ⟨e0, e1⟩ := win0_facts t
  match a with
  | ⟨0, _⟩ => show win0_0.index t (0 : Fin 2) * 256 + 1 * p.val = r.val; omega
  | ⟨1, _⟩ => show win0_0.index t (1 : Fin 2) * 1024 + 1 * l.val = l.val; omega

theorem gm_apply (c : Dev nD) (t : Fin cfg0.N) (p : Fin 256) (l : Fin 1024) (r : Fin 16896)
    (hr : r.val = t.val * 256 + p.val) :
    iblk m c 1 t (ix2 p l) = m ((c.tc : Thread nD τ).loc main_arg1) (ix2 r l) := by
  rw [← V_main_arg1 m c]
  show V m c main_arg1 ((win0_1.rect t).idx (ix2 p l)) = V m c main_arg1 (ix2 r l)
  refine congrArg _ (funext fun a => Fin.ext ?_)
  obtain ⟨e0, e1⟩ := win1_facts t
  match a with
  | ⟨0, _⟩ => show win0_1.index t (0 : Fin 2) * 256 + 1 * p.val = r.val; omega
  | ⟨1, _⟩ => show win0_1.index t (1 : Fin 2) * 1024 + 1 * l.val = l.val; omega

theorem ga_apply (c : Dev nD) (t : Fin cfg0.N) (p : Fin 256) (k : Fin 2048) (r : Fin 16896) (j : Fin 7680)
    (hr : r.val = t.val * 256 + p.val) (hj : j.val = k.val) :
    X0_2 m c t (ix2 p k) = m ((c.tc : Thread nD τ).loc main_arg2) (ix2 r j) := by
  rw [← V_main_arg2 m c]
  unfold X0_2 Pipeline.Window.fill
  rw [dif_pos (moved0_2 t (ix2 p k))]
  show V m c main_arg2 ((win0_2.rect t).idx _) = V m c main_arg2 (ix2 r j)
  refine congrArg _ (funext fun a => Fin.ext ?_)
  obtain ⟨e0, e1⟩ := win2_facts t
  match a with
  | ⟨0, _⟩ => show win0_2.index t (0 : Fin 2) * 256 + 1 * p.val = r.val; omega
  | ⟨1, _⟩ => show win0_2.index t (1 : Fin 2) * 2048 + 1 * k.val = j.val; omega

theorem gb_apply (c : Dev nD) (t : Fin cfg0.N) (p : Fin 256) (k : Fin 2048) (r : Fin 16896) (j : Fin 7680)
    (hr : r.val = t.val * 256 + p.val) (hj : j.val = 2048 + k.val) :
    X0_3 m c t (ix2 p k) = m ((c.tc : Thread nD τ).loc main_arg2) (ix2 r j) := by
  rw [← V_main_arg2 m c]
  unfold X0_3 Pipeline.Window.fill
  rw [dif_pos (moved0_3 t (ix2 p k))]
  show V m c main_arg2 ((win0_3.rect t).idx _) = V m c main_arg2 (ix2 r j)
  refine congrArg _ (funext fun a => Fin.ext ?_)
  obtain ⟨e0, e1⟩ := win3_facts t
  match a with
  | ⟨0, _⟩ => show win0_3.index t (0 : Fin 2) * 256 + 1 * p.val = r.val; omega
  | ⟨1, _⟩ => show win0_3.index t (1 : Fin 2) * 2048 + 1 * k.val = j.val; omega

/-- The stacked tokens the fifth window reads. -/
theorem stacked (c : Dev nD) (r : Fin 16896) (k : Fin 2048) :
    V m c main_v2 (ix2 r k)
      = tok (m ((c.tc : Thread nD τ).loc main_arg3)) (m ((c.tc : Thread nD τ).loc main_arg4)) r k := by
  have e : V m c main_v2 = concatenate S16896x2048 0
      [⟨S16384x2048, shapeCast S16384x2048 (m ((c.tc : Thread nD τ).loc main_arg3)) shapeCasts_S1x16384x2048_S16384x2048⟩,
       ⟨S512x2048, shapeCast S512x2048 (m ((c.tc : Thread nD τ).loc main_arg4)) shapeCasts_S128x4x2048_S512x2048⟩]
      concatenates_S16384x2048_S512x2048_S16896x2048_d0 := by
    show StableHlo.after hostOps0 _ (Proc.devRef .tc main_v2) = _
    after_results
    rfl
  rw [e]
  exact Cert.Inproj.stack_apply _ _ _ _ _ r k

theorem tok_apply (c : Dev nD) (t : Fin cfg0.N) (p : Fin 256) (k : Fin 2048) (r : Fin 16896)
    (hr : r.val = t.val * 256 + p.val) :
    iblk m c 4 t (ix2 p k)
      = tok (m ((c.tc : Thread nD τ).loc main_arg3)) (m ((c.tc : Thread nD τ).loc main_arg4)) r k := by
  refine Eq.trans ?_ (stacked m c r k)
  show V m c main_v2 ((win0_4.rect t).idx (ix2 p k)) = V m c main_v2 (ix2 r k)
  refine congrArg _ (funext fun a => Fin.ext ?_)
  obtain ⟨e0, e1⟩ := win4_facts t
  match a with
  | ⟨0, _⟩ => show win0_4.index t (0 : Fin 2) * 256 + 1 * p.val = r.val; omega
  | ⟨1, _⟩ => show win0_4.index t (1 : Fin 2) * 2048 + 1 * k.val = k.val; omega

theorem wa_apply (c : Dev nD) (t : Fin cfg0.N) (l : Fin 1024) (k : Fin 2048) :
    iblk m c 5 t (ix2 l k) = (m ((c.tc : Thread nD τ).loc main_arg5) : S1x1024x2048.Idx → EReal) (ix3 0 l k) := by
  have e : V m c main_v4 = (shapeCast S1024x2048 (m ((c.tc : Thread nD τ).loc main_arg5)) shapeCasts_S1x1024x2048_S1024x2048
      : S1024x2048.Idx → EReal) := by
    show StableHlo.after hostOps0 _ (Proc.devRef .tc main_v4) = _
    after_results
    rfl
  have e' : iblk m c 5 t (ix2 l k) = V m c main_v4 (ix2 l k) := by
    show V m c main_v4 ((win0_5.rect t).idx (ix2 l k)) = V m c main_v4 (ix2 l k)
    refine congrArg _ (funext fun a => Fin.ext ?_)
    obtain ⟨e0, e1⟩ := win5_facts t
    match a with
    | ⟨0, _⟩ => show win0_5.index t (0 : Fin 2) * 1024 + 1 * l.val = l.val; omega
    | ⟨1, _⟩ => show win0_5.index t (1 : Fin 2) * 2048 + 1 * k.val = k.val; omega
  rw [e', e]
  refine shapeCast_apply _ shapeCasts_S1x1024x2048_S1024x2048 _ _ ?_
  rw [Shape.rowMajor_val_three, Shape.rowMajor_val_two]
  show (0 * 1024 + l.val) * 2048 + k.val = l.val * 2048 + k.val
  omega

theorem wg_apply (c : Dev nD) (t : Fin cfg0.N) (l : Fin 1024) (k : Fin 2048) :
    iblk m c 6 t (ix2 l k) = (m ((c.tc : Thread nD τ).loc main_arg6) : S1x1024x2048.Idx → EReal) (ix3 0 l k) := by
  have e : V m c main_v6 = (shapeCast S1024x2048 (m ((c.tc : Thread nD τ).loc main_arg6)) shapeCasts_S1x1024x2048_S1024x2048
      : S1024x2048.Idx → EReal) := by
    show StableHlo.after hostOps0 _ (Proc.devRef .tc main_v6) = _
    after_results
    rfl
  have e' : iblk m c 6 t (ix2 l k) = V m c main_v6 (ix2 l k) := by
    show V m c main_v6 ((win0_6.rect t).idx (ix2 l k)) = V m c main_v6 (ix2 l k)
    refine congrArg _ (funext fun a => Fin.ext ?_)
    obtain ⟨e0, e1⟩ := win6_facts t
    match a with
    | ⟨0, _⟩ => show win0_6.index t (0 : Fin 2) * 1024 + 1 * l.val = l.val; omega
    | ⟨1, _⟩ => show win0_6.index t (1 : Fin 2) * 2048 + 1 * k.val = k.val; omega
  rw [e', e]
  refine shapeCast_apply _ shapeCasts_S1x1024x2048_S1024x2048 _ _ ?_
  rw [Shape.rowMajor_val_three, Shape.rowMajor_val_two]
  show (0 * 1024 + l.val) * 2048 + k.val = l.val * 2048 + k.val
  omega

theorem wo_apply (c : Dev nD) (t : Fin cfg0.N) (k j : Fin 2048) :
    iblk m c 7 t (ix2 k j) = (m ((c.tc : Thread nD τ).loc main_arg7) : S1x2048x2048.Idx → EReal) (ix3 0 k j) := by
  have e : V m c main_v8 = (shapeCast S2048x2048 (m ((c.tc : Thread nD τ).loc main_arg7)) shapeCasts_S1x2048x2048_S2048x2048
      : S2048x2048.Idx → EReal) := by
    show StableHlo.after hostOps0 _ (Proc.devRef .tc main_v8) = _
    after_results
    rfl
  have e' : iblk m c 7 t (ix2 k j) = V m c main_v8 (ix2 k j) := by
    show V m c main_v8 ((win0_7.rect t).idx (ix2 k j)) = V m c main_v8 (ix2 k j)
    refine congrArg _ (funext fun a => Fin.ext ?_)
    obtain ⟨e0, e1⟩ := win7_facts t
    match a with
    | ⟨0, _⟩ => show win0_7.index t (0 : Fin 2) * 2048 + 1 * k.val = k.val; omega
    | ⟨1, _⟩ => show win0_7.index t (1 : Fin 2) * 2048 + 1 * j.val = j.val; omega
  rw [e', e]
  refine shapeCast_apply _ shapeCasts_S1x2048x2048_S2048x2048 _ _ ?_
  rw [Shape.rowMajor_val_three, Shape.rowMajor_val_two]
  show (0 * 2048 + k.val) * 2048 + j.val = k.val * 2048 + j.val
  omega

theorem gain_apply (c : Dev nD) (t : Fin cfg0.N) (k : Fin 2048) :
    iblk m c 8 t (ix2 0 k) = m ((c.tc : Thread nD τ).loc main_arg8) (ix2 0 k) := by
  rw [← V_main_arg8 m c]
  show V m c main_arg8 ((win0_8.rect t).idx (ix2 0 k)) = V m c main_arg8 (ix2 0 k)
  refine congrArg _ (funext fun a => Fin.ext ?_)
  obtain ⟨e0, e1⟩ := win8_facts t
  match a with
  | ⟨0, _⟩ => show win0_8.index t (0 : Fin 2) * 1 + 1 * 0 = 0; omega
  | ⟨1, _⟩ => show win0_8.index t (1 : Fin 2) * 2048 + 1 * k.val = k.val; omega

/-- The merged rows of the arguments on core `c`. -/
abbrev merged (c : Dev nD) : S16896x2048.Idx → EReal :=
  hid (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))

/-- One entry of a point's block of merged rows, at its place. -/
theorem rows_apply (c : Dev nD) (t : Fin cfg0.N) (p : Fin 256) (r : Fin 16896) (j : Fin 2048)
    (hr : r.val = t.val * 256 + p.val) : rows m c t (ix2 p j) = merged m c (ix2 r j) := by
  refine (pay2_apply _ _ _ _ _ _ _ _ p j).trans ?_
  show _ = mixed _ _ _ _ _ _ _ _ j
  congr 1 <;> funext k
  · exact attn_apply m c t p k r hr
  · exact gm_apply m c t p k r hr
  · exact ga_apply m c t p k r _ hr rfl
  · exact gb_apply m c t p k r _ hr rfl
  · exact tok_apply m c t p k r hr
  · exact funext fun l => wa_apply m c t k l
  · exact funext fun l => wg_apply m c t k l
  · exact funext fun l => wo_apply m c t k l

/-- One entry of a point's block of scaled rows, at its place. -/
theorem scaled_apply (c : Dev nD) (t : Fin cfg0.N) (p : Fin 256) (r : Fin 16896) (j : Fin 2048)
    (hr : r.val = t.val * 256 + p.val) :
    (outsAt0 m c t).2 (ix2 p j) = normed (merged m c) (m ((c.tc : Thread nD τ).loc main_arg8)) (ix2 r j) := by
  rw [out10]
  refine (pay1_apply _ _ _ p j).trans ?_
  rw [pay3_apply, gain_apply]
  show rows m c t (ix2 p j) * Ideal.rsqrt (Ideal.div (∑ l : Fin 2048, rows m c t (ix2 p l) * rows m c t (ix2 p l)) _ + _) * _ = _
  simp only [rows_apply m c t p r _ hr]
  rfl

theorem flushed9_eq (c : Dev nD) (t : Fin cfg0.N) :
    (dats m 0 c).flushed 9 t = ((cfg0.win 9).blk t).view.read (Elt Ideal) (merged m c) := by
  rw [Value.flushed9, out9]
  funext y
  obtain ⟨e0, e1⟩ := win9_facts t
  show rows m c t y = merged m c ((win0_9.rect t).idx y)
  have hr : ((win0_9.rect t).idx y 0).val = win0_9.index t (0 : Fin 2) * 256 + 1 * (y 0).val := rfl
  have hj : ((win0_9.rect t).idx y 1).val = win0_9.index t (1 : Fin 2) * 2048 + 1 * (y 1).val := rfl
  generalize (win0_9.rect t).idx y = i at hr hj
  rw [e0] at hr
  rw [e1] at hj
  have h1 : (y 1 : Fin 2048) = (i 1 : Fin 2048) := Fin.ext (by omega)
  refine (congrArg (rows m c t) (eq_ix2 (n0 := 256) (n1 := 2048) y)).trans
    ((rows_apply m c t (y 0) (i 0) (y 1) (by omega)).trans
      (congrArg (merged m c) ((congrArg (ix2 (i 0)) h1).trans (eq_ix2 (n0 := 16896) (n1 := 2048) i).symm)))

theorem flushed10_eq (c : Dev nD) (t : Fin cfg0.N) :
    (dats m 0 c).flushed 10 t = ((cfg0.win 10).blk t).view.read (Elt Ideal)
      (normed (merged m c) (m ((c.tc : Thread nD τ).loc main_arg8))) := by
  rw [Value.flushed10]
  funext y
  obtain ⟨e0, e1⟩ := win10_facts t
  show (outsAt0 m c t).2 y = normed _ _ ((win0_10.rect t).idx y)
  have hr : ((win0_10.rect t).idx y 0).val = win0_10.index t (0 : Fin 2) * 256 + 1 * (y 0).val := rfl
  have hj : ((win0_10.rect t).idx y 1).val = win0_10.index t (1 : Fin 2) * 2048 + 1 * (y 1).val := rfl
  generalize (win0_10.rect t).idx y = i at hr hj
  rw [e0] at hr
  rw [e1] at hj
  have h1 : (y 1 : Fin 2048) = (i 1 : Fin 2048) := Fin.ext (by omega)
  refine (congrArg (outsAt0 m c t).2 (eq_ix2 (n0 := 256) (n1 := 2048) y)).trans
    ((scaled_apply m c t (y 0) (i 0) (y 1) (by omega)).trans
      (congrArg (normed _ _) ((congrArg (ix2 (i 0)) h1).trans (eq_ix2 (n0 := 16896) (n1 := 2048) i).symm)))

theorem cover9 (i : S16896x2048.Idx) :
    ∃ t : Fin cfg0.N, (cfg0.win 9).flush t = true ∧ i ∈ ((cfg0.win 9).blk t).view.set := by
  have hi : (i 0).val < 16896 := (i 0).isLt
  have hi1 : (i 1).val < 2048 := (i 1).isLt
  obtain ⟨t, ht⟩ : ∃ t : Fin cfg0.N, t.val = (i 0).val / 256 := ⟨⟨(i 0).val / 256, by show _ < grid0.N; rw [N_0]; omega⟩, rfl⟩
  obtain ⟨e0, e1⟩ := win9_facts t
  refine ⟨t, flush0_9 t, ?_⟩
  show i ∈ ((View.whole main_v9_0).slice (win0_9.rect t)).set
  rw [View.set_slice_whole, Rect.mem_set_unit]
  intro a
  match a with
  | ⟨0, _⟩ => exact ⟨by show win0_9.index t (0 : Fin 2) * 256 ≤ (i 0).val; omega,
      by show (i 0).val < win0_9.index t (0 : Fin 2) * 256 + 256; omega⟩
  | ⟨1, _⟩ => exact ⟨by show win0_9.index t (1 : Fin 2) * 2048 ≤ (i 1).val; omega,
      by show (i 1).val < win0_9.index t (1 : Fin 2) * 2048 + 2048; omega⟩

theorem cover10 (i : S16896x2048.Idx) :
    ∃ t : Fin cfg0.N, (cfg0.win 10).flush t = true ∧ i ∈ ((cfg0.win 10).blk t).view.set := by
  have hi : (i 0).val < 16896 := (i 0).isLt
  have hi1 : (i 1).val < 2048 := (i 1).isLt
  obtain ⟨t, ht⟩ : ∃ t : Fin cfg0.N, t.val = (i 0).val / 256 := ⟨⟨(i 0).val / 256, by show _ < grid0.N; rw [N_0]; omega⟩, rfl⟩
  obtain ⟨e0, e1⟩ := win10_facts t
  refine ⟨t, flush0_10 t, ?_⟩
  show i ∈ ((View.whole main_v9_1).slice (win0_10.rect t)).set
  rw [View.set_slice_whole, Rect.mem_set_unit]
  intro a
  match a with
  | ⟨0, _⟩ => exact ⟨by show win0_10.index t (0 : Fin 2) * 256 ≤ (i 0).val; omega,
      by show (i 0).val < win0_10.index t (0 : Fin 2) * 256 + 256; omega⟩
  | ⟨1, _⟩ => exact ⟨by show win0_10.index t (1 : Fin 2) * 2048 ≤ (i 1).val; omega,
      by show (i 1).val < win0_10.index t (1 : Fin 2) * 2048 + 2048; omega⟩

end Cert.MergeKernelIdeal.Mix

namespace Cert.MergeReferenceIdeal.Mix

open Cert.MergeReferenceIdeal Cert.MergeReferenceIdeal.Gen Cert.MergeReferenceIdeal.Read Cert.Merge
open Cert.Inproj (scaled tok)

theorem stacked (x3 : S1x16384x2048.Idx → EReal) (x4 : S128x4x2048.Idx → EReal) (r : Fin 16896) (j : Fin 2048) :
    val_main_v2 (F := Ideal) x3 x4 (ix2 r j) = tok x3 x4 r j :=
  Cert.Inproj.stack_apply _ _ _ _ _ r j

/-- The reference's merged rows. -/
theorem hid_apply (x0 x1 : S16896x1024.Idx → EReal) (x2 : S16896x7680.Idx → EReal) (x3 : S1x16384x2048.Idx → EReal)
    (x4 : S128x4x2048.Idx → EReal) (x5 x6 : S1x1024x2048.Idx → EReal) (x7 : S1x2048x2048.Idx → EReal)
    (r : Fin 16896) (j : Fin 2048) :
    val_main_v30 (F := Ideal) x0 x1 x2 x3 x4 x5 x6 x7 (ix2 r j) = hid x0 x1 x2 x3 x4 x5 x6 x7 (ix2 r j) := by
  rw [val_main_v30_apply, stacked]
  refine congrArg (tok x3 x4 r j + ·) ?_
  pointwise [val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_cst, val_main_cst_0, val_main_cst_1, val_main_cst_2,
    Ideal.logistic]

/-- The reference's scaled rows. -/
theorem normed_apply (x0 x1 : S16896x1024.Idx → EReal) (x2 : S16896x7680.Idx → EReal) (x3 : S1x16384x2048.Idx → EReal)
    (x4 : S128x4x2048.Idx → EReal) (x5 x6 : S1x1024x2048.Idx → EReal) (x7 : S1x2048x2048.Idx → EReal)
    (x8 : S1x2048.Idx → EReal) (r : Fin 16896) (j : Fin 2048) :
    val_main_v44 (F := Ideal) x0 x1 x2 x3 x4 x5 x6 x7 x8 (ix2 r j) = normed (hid x0 x1 x2 x3 x4 x5 x6 x7) x8 (ix2 r j) := by
  show _ = scaled (fun l => hid x0 x1 x2 x3 x4 x5 x6 x7 (ix2 r l)) _ j
  simp only [← hid_apply]
  unfold val_main_v44 val_main_v41 val_main_v40 val_main_v39 val_main_v38 val_main_v36 val_main_v34 val_main_v33 val_main_v32
  generalize val_main_v30 (F := Ideal) x0 x1 x2 x3 x4 x5 x6 x7 = h
  pointwise [val_main_v43, val_main_v42, val_main_v37, val_main_v35, val_main_v31, val_main_cst_3, val_main_cst_4,
    val_main_cst_5, scaled]

end Cert.MergeReferenceIdeal.Mix

namespace Cert.Proof

/-- Over the extended reals the kernel's merged rows and scaled rows are the reference's. -/
theorem merge_algebraic : Cert.algebraic_MergeKernelIdeal_MergeReferenceIdeal
    (hMergeKernelIdeal := Cert.MergeKernelIdeal.Gen.facts) (hMergeReferenceIdeal := Cert.MergeReferenceIdeal.Gen.facts) := by
  intro m g m' g' _ hargs
  refine ⟨fun c => Cert.MergeKernelIdeal.Mix.merged m c, fun c => Cert.Merge.normed (Cert.MergeKernelIdeal.Mix.merged m c)
    (m ((c.tc : Thread Cert.MergeKernelIdeal.nD Cert.MergeKernelIdeal.τ).loc Cert.MergeKernelIdeal.main_arg8)), ?_, ?_⟩
  · exact (θ_run Cert.MergeKernelIdeal.defs _ _).mono (fun _ h c =>
      ⟨(h c).1.trans ((Cert.MergeKernelIdeal.Gen.dats m 0 c).arrAt_eq_of_cover 9 _
          (fun t _ => Cert.MergeKernelIdeal.Mix.flushed9_eq m c t) Cert.MergeKernelIdeal.Mix.cover9),
        (h c).2.1.trans ((Cert.MergeKernelIdeal.Gen.dats m 0 c).arrAt_eq_of_cover 10 _
          (fun t _ => Cert.MergeKernelIdeal.Mix.flushed10_eq m c t) Cert.MergeKernelIdeal.Mix.cover10), (h c).2.2⟩)
      (Cert.MergeKernelIdeal.Value.run_blocks m g)
  refine (θ_run Cert.MergeReferenceIdeal.defs _ _).mono (fun r h c => ⟨?_, ?_, (h c).2.2⟩)
    (Cert.MergeReferenceIdeal.Value.run (F := Ideal) m' g')
  · refine (h c).1.trans ((Cert.MergeReferenceIdeal.Read.val_main_v30_eq (F := Ideal) _ _ _ _ _ _ _ _).trans ?_)
    obtain ⟨a0, a1, a2, a3, a4, a5, a6, a7, a8⟩ := hargs c
    rw [a0, a1, a2, a3, a4, a5, a6, a7]
    refine funext fun y => ?_
    exact (congrArg _ (eq_ix2 (n0 := 16896) (n1 := 2048) y)).trans
      ((Cert.MergeReferenceIdeal.Mix.hid_apply _ _ _ _ _ _ _ _ (y 0) (y 1)).trans
        (congrArg _ (eq_ix2 (n0 := 16896) (n1 := 2048) y).symm))
  · refine (h c).2.1.trans ((Cert.MergeReferenceIdeal.Read.val_main_v44_eq (F := Ideal) _ _).trans ?_)
    obtain ⟨a0, a1, a2, a3, a4, a5, a6, a7, a8⟩ := hargs c
    rw [a0, a1, a2, a3, a4, a5, a6, a7, a8]
    refine funext fun y => ?_
    exact (congrArg _ (eq_ix2 (n0 := 16896) (n1 := 2048) y)).trans
      ((Cert.MergeReferenceIdeal.Mix.normed_apply _ _ _ _ _ _ _ _ _ (y 0) (y 1)).trans
        (congrArg _ (eq_ix2 (n0 := 16896) (n1 := 2048) y).symm))

end Cert.Proof

end
-- ==== Proof.Pack.lean ====
/-
  The packed expert table: word `(e, s, l)` of the kernel's result holds the bfloat16 rounding of entry
  `(e, 128 * s + l)` of the first table in its low half and of the second table in its high half. Both programs are
  shown to leave that array.
-/
module

public import proofs.«01_k».proof.Defs
public import proofs.«01_k».proof.Proof.Gen.PackKernel.Value
public import proofs.«01_k».proof.Proof.Gen.PackReference.Run
public import proofs.«01_k».proof.Proof.Gen.PackReference.Read
public import Idealize.ShloMosaic.Lib.Pipeline.Value
public import Idealize.ShloMosaic.Lib.Pipeline.ValueKit.Tiles
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.PackKernel.Words

open Cert.PackKernel Cert.PackKernel.Gen

variable {F : FTy → Type} [BitOps F]
variable (m : (ℓ : Loc nD τ sig) → Buf (Elt F) ℓ) (ρ : Dev nD → PrngReg)

/-- One word of the table: the first operand rounded to bfloat16 in the low half, the second in the high half. -/
def word (a b : F .f32) : BitVec 32 :=
  BitOps.toBits (FloatOps.truncf .bf16 (by decide) b) ++ BitOps.toBits (FloatOps.truncf .bf16 (by decide) a)

/-- The entry of a block of table rows that word `(r, s, l)` comes from: row `r`, column `128 * s + l`. -/
def colB (y : S256x16x128.Idx) : S256x2048.Idx := fun a => match a with
  | ⟨0, _⟩ => y 0
  | ⟨1, _⟩ => ⟨128 * (y 1).val + (y 2).val, by
      have h1 : (y 1).val < 16 := (y 1).isLt
      have h2 : (y 2).val < 128 := (y 2).isLt
      show 128 * (y 1).val + (y 2).val < 2048
      omega⟩

/-- The same in the whole table, which keeps the argument's leading axis of extent one. -/
def colA (y : S16384x16x128.Idx) : S1x16384x2048.Idx := fun a => match a with
  | ⟨0, _⟩ => ⟨0, Nat.one_pos⟩
  | ⟨1, _⟩ => y 0
  | ⟨2, _⟩ => ⟨128 * (y 1).val + (y 2).val, by
      have h1 : (y 1).val < 16 := (y 1).isLt
      have h2 : (y 2).val < 128 := (y 2).isLt
      show 128 * (y 1).val + (y 2).val < 2048
      omega⟩

/-- The whole packed table as a function of the two argument tables. -/
def table (x0 x1 : S1x16384x2048.Idx → F .f32) (y : S16384x16x128.Idx) : BitVec 32 :=
  word (x0 (colA y)) (x1 (colA y))

/-- What one store of the body writes, at an index: the word of the two loaded strips at row `x 0`, lane `x 2`. -/
theorem strip_apply (A B : Vec F S256x128 .f32) (x : S256x1x128.Idx) (i : S256x128.Idx)
    (h0 : (i 0).val = (x 0).val) (h1 : (i 1).val = (x 2).val) : k0_pay2 A B x = word (A i) (B i) := by
  unfold k0_pay2
  rw [shapeCast_apply _ shapeCasts_S256x128_S256x1x128 x i (by
    rewrite [Shape.rowMajor_val_two, Shape.rowMajor_val_three]
    have h : (x 1).val < 1 := (x 1).isLt
    show (i 0).val * 128 + (i 1).val = ((x 0).val * 1 + (x 1).val) * 128 + (x 2).val
    omega)]
  unfold packElementwise word
  rw [shapeCast_apply A shapeCasts_S256x128_S256x128 i i rfl, shapeCast_apply B shapeCasts_S256x128_S256x128 i i rfl]

/-- The entry of a loaded strip that index `x` of the stored strip comes from. -/
def lane (x : S256x1x128.Idx) : S256x128.Idx := fun a => match a with
  | ⟨0, _⟩ => x 0
  | ⟨1, _⟩ => x 2

/-- A strip stored at lane group `s`, from the columns `128 * s ..` of the block: the block's word wherever it lands. -/
theorem tile (X0 X1 : Vec F S256x2048 .f32) (y : S256x16x128.Idx) (s : Nat)
    (inb : ∀ a, (![0, 128 * s] : Fin 2 → Nat) a + S256x128.size a ≤ S256x2048.size a) :
    View.TileAt (Val := Elt F) (S := S256x16x128) (e := .i32) y ![0, s, 0] S256x1x128.size
      (k0_pay2 (View.ld X0 (Rect.unit (s := S256x2048) ![0, 128 * s] S256x128.size inb))
        (View.ld X1 (Rect.unit (s := S256x2048) ![0, 128 * s] S256x128.size inb)))
      (word (X0 (colB y)) (X1 (colB y))) := by
  intro x hx
  have h0 : (y 0).val = 0 + (x 0).val := hx 0
  have h1 : (y 1).val = s + (x 1).val := hx 1
  have h2 : (y 2).val = 0 + (x 2).val := hx 2
  have hx1 : (x 1).val < 1 := (x 1).isLt
  have key : ∀ a : Fin 2, ((colB y a : Fin _) : Nat) = (![0, 128 * s] : Fin 2 → Nat) a
      + ((lane x a : Fin _) : Nat) := by
    intro a
    match a with
    | ⟨0, _⟩ => show (y 0).val = 0 + (x 0).val; omega
    | ⟨1, _⟩ => show 128 * (y 1).val + (y 2).val = 128 * s + (x 2).val; omega
  refine (strip_apply _ _ x (lane x) rfl rfl).trans (congrArg₂ word ?_ ?_)
  · exact View.ld_unit_apply_of X0 _ _ _ (lane x) (colB y) key
  · exact View.ld_unit_apply_of X1 _ _ _ (lane x) (colB y) key

/-- The body's sixteen stores together: the block of words of the two input blocks. -/
theorem out_eq (X0 X1 : Vec F S256x2048 .f32) (y : S256x16x128.Idx) :
    out0_2 X0 X1 y = word (X0 (colB y)) (X1 (colB y)) := by
  unfold out0_2
  refine View.canon_eq_of_allAt _ y _ (cover0_2 _ _ _ _ _ _ _ _ _ _ _ _ _ _ _ _ y) ?_
  refine View.allAt_cons_unit _ _ _ _ _ (tile X0 X1 y 15 inb_S256x2048_S256x128_0_1920) ?_
  refine View.allAt_cons_unit _ _ _ _ _ (tile X0 X1 y 14 inb_S256x2048_S256x128_0_1792) ?_
  refine View.allAt_cons_unit _ _ _ _ _ (tile X0 X1 y 13 inb_S256x2048_S256x128_0_1664) ?_
  refine View.allAt_cons_unit _ _ _ _ _ (tile X0 X1 y 12 inb_S256x2048_S256x128_0_1536) ?_
  refine View.allAt_cons_unit _ _ _ _ _ (tile X0 X1 y 11 inb_S256x2048_S256x128_0_1408) ?_
  refine View.allAt_cons_unit _ _ _ _ _ (tile X0 X1 y 10 inb_S256x2048_S256x128_0_1280) ?_
  refine View.allAt_cons_unit _ _ _ _ _ (tile X0 X1 y 9 inb_S256x2048_S256x128_0_1152) ?_
  refine View.allAt_cons_unit _ _ _ _ _ (tile X0 X1 y 8 inb_S256x2048_S256x128_0_1024) ?_
  refine View.allAt_cons_unit _ _ _ _ _ (tile X0 X1 y 7 inb_S256x2048_S256x128_0_896) ?_
  refine View.allAt_cons_unit _ _ _ _ _ (tile X0 X1 y 6 inb_S256x2048_S256x128_0_768) ?_
  refine View.allAt_cons_unit _ _ _ _ _ (tile X0 X1 y 5 inb_S256x2048_S256x128_0_640) ?_
  refine View.allAt_cons_unit _ _ _ _ _ (tile X0 X1 y 4 inb_S256x2048_S256x128_0_512) ?_
  refine View.allAt_cons_unit _ _ _ _ _ (tile X0 X1 y 3 inb_S256x2048_S256x128_0_384) ?_
  refine View.allAt_cons_unit _ _ _ _ _ (tile X0 X1 y 2 inb_S256x2048_S256x128_0_256) ?_
  refine View.allAt_cons_unit _ _ _ _ _ (tile X0 X1 y 1 inb_S256x2048_S256x128_0_128) ?_
  refine View.allAt_cons_unit _ _ _ _ _ (tile X0 X1 y 0 inb_S256x2048_S256x128_0_0) ?_
  exact View.allAt_nil _ _

/-- The first table without its leading axis, at an entry. -/
theorem V0_apply (c : Dev nD) (i : S16384x2048.Idx) (j : S1x16384x2048.Idx) (h1 : (j 1).val = (i 0).val)
    (h2 : (j 2).val = (i 1).val) :
    (V m c main_v0 : S16384x2048.Idx → F .f32) i = m ((c : Thread nD τ).loc main_arg0) j := by
  have e : (V m c main_v0 : S16384x2048.Idx → F .f32)
      = shapeCast S16384x2048 (m ((c : Thread nD τ).loc main_arg0)) shapeCasts_S1x16384x2048_S16384x2048 := by
    show StableHlo.after hostOps0 _ (Proc.devRef .tc main_v0) = _
    after_results
    rfl
  rw [e]
  refine shapeCast_apply _ shapeCasts_S1x16384x2048_S16384x2048 i j ?_
  rewrite [Shape.rowMajor_val_two, Shape.rowMajor_val_three]
  have h : (j 0).val < 1 := (j 0).isLt
  show ((j 0).val * 16384 + (j 1).val) * 2048 + (j 2).val = (i 0).val * 2048 + (i 1).val
  have h0 : (j 0).val = 0 := by omega
  rw [h0, h1, h2]
  omega

/-- The second table likewise. -/
theorem V1_apply (c : Dev nD) (i : S16384x2048.Idx) (j : S1x16384x2048.Idx) (h1 : (j 1).val = (i 0).val)
    (h2 : (j 2).val = (i 1).val) :
    (V m c main_v1 : S16384x2048.Idx → F .f32) i = m ((c : Thread nD τ).loc main_arg1) j := by
  have e : (V m c main_v1 : S16384x2048.Idx → F .f32)
      = shapeCast S16384x2048 (m ((c : Thread nD τ).loc main_arg1)) shapeCasts_S1x16384x2048_S16384x2048 := by
    show StableHlo.after hostOps0 _ (Proc.devRef .tc main_v1) = _
    after_results
    rfl
  rw [e]
  refine shapeCast_apply _ shapeCasts_S1x16384x2048_S16384x2048 i j ?_
  rewrite [Shape.rowMajor_val_two, Shape.rowMajor_val_three]
  have h : (j 0).val < 1 := (j 0).isLt
  show ((j 0).val * 16384 + (j 1).val) * 2048 + (j 2).val = (i 0).val * 2048 + (i 1).val
  have h0 : (j 0).val = 0 := by omega
  rw [h0, h1, h2]
  omega

/-- Where the three windows stand at a point: the same 256 rows, all columns. -/
theorem index_facts : ∀ t : Fin cfg0.N, win0_2.index t 0 = t.val ∧ win0_2.index t 1 = 0 ∧ win0_2.index t 2 = 0
    ∧ win0_0.index t 0 = t.val ∧ win0_0.index t 1 = 0 ∧ win0_1.index t 0 = t.val ∧ win0_1.index t 1 = 0 :=
  (by decide +kernel : ∀ t : Fin grid0.N, win0_2.index t 0 = t.val ∧ win0_2.index t 1 = 0 ∧ win0_2.index t 2 = 0
    ∧ win0_0.index t 0 = t.val ∧ win0_0.index t 1 = 0 ∧ win0_1.index t 0 = t.val ∧ win0_1.index t 1 = 0)

/-- What a point writes back is its 256 rows of the packed table. -/
theorem flushed_eq (c : Dev nD) (t : Fin cfg0.N) :
    (dats m 0 c).flushed 2 t = (win0_2.blk t).view.read (Elt F)
      (table (m ((c : Thread nD τ).loc main_arg0)) (m ((c : Thread nD τ).loc main_arg1))) := by
  rw [Value.flushed2]
  obtain ⟨e0, e1, e2, f0, f1, g0, g1⟩ := index_facts t
  funext y
  show out0_2 (iblk m c 0 t) (iblk m c 1 t) y = table (m ((c : Thread nD τ).loc main_arg0))
    (m ((c : Thread nD τ).loc main_arg1)) ((win0_2.rect t).idx y)
  have k0 : (((win0_2.rect t).idx y 0 : Fin _) : Nat) = win0_2.index t 0 * 256 + 1 * (y 0).val := rfl
  have k1 : (((win0_2.rect t).idx y 1 : Fin _) : Nat) = win0_2.index t 1 * 16 + 1 * (y 1).val := rfl
  have k2 : (((win0_2.rect t).idx y 2 : Fin _) : Nat) = win0_2.index t 2 * 128 + 1 * (y 2).val := rfl
  rw [e0] at k0
  rw [e1] at k1
  rw [e2] at k2
  rw [out_eq]
  unfold table
  refine congrArg₂ word ?_ ?_
  · show (V m c main_v0 : S16384x2048.Idx → F .f32) ((win0_0.rect t).idx (colB y)) = _
    refine V0_apply m c _ _ ?_ ?_
    · show (((win0_2.rect t).idx y 0 : Fin _) : Nat) = win0_0.index t 0 * 256 + 1 * (y 0).val
      omega
    · show 128 * (((win0_2.rect t).idx y 1 : Fin _) : Nat) + (((win0_2.rect t).idx y 2 : Fin _) : Nat)
        = win0_0.index t 1 * 2048 + 1 * (128 * (y 1).val + (y 2).val)
      omega
  · show (V m c main_v1 : S16384x2048.Idx → F .f32) ((win0_1.rect t).idx (colB y)) = _
    refine V1_apply m c _ _ ?_ ?_
    · show (((win0_2.rect t).idx y 0 : Fin _) : Nat) = win0_1.index t 0 * 256 + 1 * (y 0).val
      omega
    · show 128 * (((win0_2.rect t).idx y 1 : Fin _) : Nat) + (((win0_2.rect t).idx y 2 : Fin _) : Nat)
        = win0_1.index t 1 * 2048 + 1 * (128 * (y 1).val + (y 2).val)
      omega

/-- Every index of the table lies in the block of the point its row names. -/
theorem cover (i : S16384x16x128.Idx) :
    ∃ t : Fin cfg0.N, (cfg0.win 2).flush t = true ∧ i ∈ ((cfg0.win 2).blk t).view.set := by
  have h0 : (i 0).val < 16384 := (i 0).isLt
  have h1 : (i 1).val < 16 := (i 1).isLt
  have h2 : (i 2).val < 128 := (i 2).isLt
  have hN : cfg0.N = 64 := N_0
  have ht : (i 0).val / 256 < cfg0.N := by omega
  obtain ⟨t, ht⟩ : ∃ t : Fin cfg0.N, t.val = (i 0).val / 256 := ⟨⟨(i 0).val / 256, ht⟩, rfl⟩
  obtain ⟨e0, e1, e2, -⟩ := index_facts t
  refine ⟨t, flush0_2 t, ?_⟩
  show i ∈ ((View.whole main_v2).slice (win0_2.rect t)).set
  rw [View.set_slice_whole, Rect.mem_set_unit]
  intro a
  match a with
  | ⟨0, _⟩ =>
    show win0_2.index t 0 * 256 ≤ (i 0).val ∧ (i 0).val < win0_2.index t 0 * 256 + 256
    rw [e0]; omega
  | ⟨1, _⟩ =>
    show win0_2.index t 1 * 16 ≤ (i 1).val ∧ (i 1).val < win0_2.index t 1 * 16 + 16
    rw [e1]; omega
  | ⟨2, _⟩ =>
    show win0_2.index t 2 * 128 ≤ (i 2).val ∧ (i 2).val < win0_2.index t 2 * 128 + 128
    rw [e2]; omega

/-- So the kernel's run ends with the packed table, its arguments as they were. -/
theorem run : θ_run defs (onTc (τ := τ) (main (F := F))) ⟨m, fun _ => 0, ρ⟩ fun r => ∀ c : Dev nD,
      r.2.mem ((c.tc : Thread nD τ).loc main_v2)
        = table (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans
    ((dats m 0 c).arrAt_eq_of_cover 2 _ (fun t _ => flushed_eq m c t) cover), (h c).2⟩)
    (Value.run_blocks m ρ)

end Cert.PackKernel.Words

namespace Cert.PackReference.Words

open Cert.PackReference Cert.PackReference.Gen Cert.PackReference.Read

/-- The reference's two shifted halves, joined, are the concatenation of the halves. -/
theorem join_halves (a b : BitVec 16) :
    IntOp.ori (a.setWidth 32) (IntOp.shli .host (b.setWidth 32) 16#32) = b ++ a := by
  have h : IntOp.shli .host (b.setWidth 32) 16#32 = b.setWidth 32 <<< 16 := by
    simp [IntOp.shli]
  rw [h]
  unfold IntOp.ori
  apply BitVec.eq_of_getLsbD_eq
  intro i hi
  have h' : (b ++ a).getLsbD i = if i < 16 then a.getLsbD i else b.getLsbD (i - 16) := BitVec.getLsbD_append
  refine Eq.trans ?_ h'.symm
  simp only [BitVec.getLsbD_or, BitVec.getLsbD_setWidth, BitVec.getLsbD_shiftLeft]
  by_cases h16 : i < 16
  · simp [h16, hi]
  · have h0 : a.getLsbD i = false := BitVec.getLsbD_of_ge a i (by omega)
    have h1 : i - 16 < 32 := by omega
    simp [h16, hi, h0, h1]

/-- The reference's result, at an index, is the packed table's word. -/
theorem value_apply (x0 x1 : S1x16384x2048.Idx → Bits .f32) (y : S16384x16x128.Idx) :
    val_main_v11 (F := Bits) x0 x1 y = Cert.PackKernel.Words.table x0 x1 y := by
  rw [val_main_v11_apply, val_main_v10_apply, val_main_v9_apply, val_main_v3_apply, val_main_v7_apply,
    val_main_v8_apply, val_main_c_apply, join_halves, val_main_v2_apply, val_main_v6_apply, val_main_v1_apply,
    val_main_v5_apply, val_main_v0_apply, val_main_v4_apply]
  have h0 : (y 0).val < 16384 := (y 0).isLt
  have h1 : (y 1).val < 16 := (y 1).isLt
  have h2 : (y 2).val < 128 := (y 2).isLt
  have e : idx_main_v0 (idx_main_v11 y) = Cert.PackKernel.Words.colA y := by
    funext a
    match a with
    | ⟨0, _⟩ => rfl
    | ⟨1, _⟩ =>
      refine Fin.ext ?_
      show ((((y 0).val * 16 + (y 1).val) * 128 + (y 2).val) / 2048 * 2048 + (((y 0).val * 16 + (y 1).val) * 128 + (y 2).val) % 2048) / 2048 % 16384 = (y 0).val
      omega
    | ⟨2, _⟩ =>
      refine Fin.ext ?_
      show ((((y 0).val * 16 + (y 1).val) * 128 + (y 2).val) / 2048 * 2048 + (((y 0).val * 16 + (y 1).val) * 128 + (y 2).val) % 2048) % 2048 = 128 * (y 1).val + (y 2).val
      omega
  have e' : idx_main_v4 (idx_main_v11 y) = Cert.PackKernel.Words.colA y := e
  rw [e, e']
  rfl

end Cert.PackReference.Words

namespace Cert.Proof

/-- Word for word, the kernel packs the table the reference writes. -/
theorem pack_bitexact : Cert.bitexact_PackKernel_PackReference (hPackKernel := Cert.PackKernel.Gen.facts)
    (hPackReference := Cert.PackReference.Gen.facts) := by
  intro m g m' g' _ hargs
  refine ⟨fun c => Cert.PackKernel.Words.table (F := Bits)
    (m ((c.tc : Thread Cert.PackKernel.nD Cert.PackKernel.τ).loc Cert.PackKernel.main_arg0))
    (m ((c.tc : Thread Cert.PackKernel.nD Cert.PackKernel.τ).loc Cert.PackKernel.main_arg1)), ?_, ?_⟩
  · exact Cert.PackKernel.Words.run (F := Bits) m g
  refine (θ_run Cert.PackReference.defs _ _).mono (fun r h c => ⟨?_, (h c).2⟩)
    (Cert.PackReference.Value.run (F := Bits) m' g')
  refine (h c).1.trans ((Cert.PackReference.Read.val_main_v11_eq (F := Bits) _ _).trans ?_)
  rw [(hargs c).1, (hargs c).2]
  exact funext fun y => Cert.PackReference.Words.value_apply _ _ y

end Cert.Proof

end
-- ==== Proof.lean ====
module

public import proofs.«01_k».proof.Defs
public import proofs.«01_k».proof.Proof.Gen.PackKernel
public import proofs.«01_k».proof.Proof.Gen.PackKernel.Skeleton
public import proofs.«01_k».proof.Proof.Gen.PackKernel.Launch
public import proofs.«01_k».proof.Proof.Gen.PackKernel.Points
public import proofs.«01_k».proof.Proof.Gen.PackKernel.Frame
public import proofs.«01_k».proof.Proof.Gen.PackReference
public import proofs.«01_k».proof.Proof.Gen.InprojKernel
public import proofs.«01_k».proof.Proof.Gen.InprojKernel.Skeleton
public import proofs.«01_k».proof.Proof.Gen.InprojKernel.Launch
public import proofs.«01_k».proof.Proof.Gen.InprojKernel.Points
public import proofs.«01_k».proof.Proof.Gen.InprojKernel.Frame
public import proofs.«01_k».proof.Proof.Gen.InprojKernelIdeal
public import proofs.«01_k».proof.Proof.Gen.InprojKernelIdeal.Skeleton
public import proofs.«01_k».proof.Proof.Gen.InprojKernelIdeal.Launch
public import proofs.«01_k».proof.Proof.Gen.InprojKernelIdeal.Points
public import proofs.«01_k».proof.Proof.Gen.InprojKernelIdeal.Frame
public import proofs.«01_k».proof.Proof.Gen.InprojReferenceIdeal
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnReferenceIdeal
public import proofs.«01_k».proof.Proof.Gen.GmlpKernel
public import proofs.«01_k».proof.Proof.Gen.GmlpKernel.Skeleton
public import proofs.«01_k».proof.Proof.Gen.GmlpKernel.Launch
public import proofs.«01_k».proof.Proof.Gen.GmlpKernel.Points
public import proofs.«01_k».proof.Proof.Gen.GmlpKernel.Frame
public import proofs.«01_k».proof.Proof.Gen.GmlpKernelIdeal
public import proofs.«01_k».proof.Proof.Gen.GmlpKernelIdeal.Skeleton
public import proofs.«01_k».proof.Proof.Gen.GmlpKernelIdeal.Launch
public import proofs.«01_k».proof.Proof.Gen.GmlpKernelIdeal.Points
public import proofs.«01_k».proof.Proof.Gen.GmlpKernelIdeal.Frame
public import proofs.«01_k».proof.Proof.Gen.GmlpReferenceIdeal
public import proofs.«01_k».proof.Proof.Gen.Pre_finite_attn
public import proofs.«01_k».proof.Proof.Attn
public import proofs.«01_k».proof.Proof.Gmlp
public import proofs.«01_k».proof.Proof.Inproj
public import proofs.«01_k».proof.Proof.Merge
public import proofs.«01_k».proof.Proof.Pack
public import Idealize.ShloMosaic.Lib.Quiescent
public import Idealize.ShloMosaic.Adequacy
public import Idealize.ShloMosaic.Init

@[expose] public section

noncomputable section

namespace Cert.Proof

open Idealize.ShloMosaic Idealize.SL.Sem

/-- Every run of `PackReference` ends with its arguments as they were and its counters at zero. -/
theorem frame_PackReference : Cert.quiescent_PackReference (hPackReference := Cert.PackReference.Gen.facts) := fun m ρ _ =>
  (θ_run Cert.PackReference.defs _ _).mono (fun r h => ⟨fun c => (h c).2, Idealize.ShloMosaic.sem_eq_zero_of_no_sems (by decide) r.2⟩)
    (Cert.PackReference.Value.run (F := Bits) m ρ)

/-- Every run of `InprojReferenceIdeal` ends with its arguments as they were and its counters at zero. -/
theorem frame_InprojReferenceIdeal : Cert.quiescent_InprojReferenceIdeal (hInprojReferenceIdeal := Cert.InprojReferenceIdeal.Gen.facts) := fun m ρ _ =>
  (θ_run Cert.InprojReferenceIdeal.defs _ _).mono (fun r h => ⟨fun c => (h c).2, Idealize.ShloMosaic.sem_eq_zero_of_no_sems (by decide) r.2⟩)
    (Cert.InprojReferenceIdeal.Value.run (F := Ideal) m ρ)

/-- Every run of `MergeReferenceIdeal` ends with its arguments as they were and its counters at zero. -/
theorem frame_MergeReferenceIdeal : Cert.quiescent_MergeReferenceIdeal (hMergeReferenceIdeal := Cert.MergeReferenceIdeal.Gen.facts) := fun m ρ _ =>
  (θ_run Cert.MergeReferenceIdeal.defs _ _).mono (fun r h => ⟨fun c => (h c).2.2, Idealize.ShloMosaic.sem_eq_zero_of_no_sems (by decide) r.2⟩)
    (Cert.MergeReferenceIdeal.Value.run (F := Ideal) m ρ)

/-- Every run of `AttnReferenceIdeal` ends with its arguments as they were and its counters at zero. -/
theorem frame_AttnReferenceIdeal : Cert.quiescent_AttnReferenceIdeal (hAttnReferenceIdeal := Cert.AttnReferenceIdeal.Gen.facts) := fun m ρ _ =>
  (θ_run Cert.AttnReferenceIdeal.defs _ _).mono (fun r h => ⟨fun c => (h c).2.2.2, Idealize.ShloMosaic.sem_eq_zero_of_no_sems (by decide) r.2⟩)
    (Cert.AttnReferenceIdeal.Value.run (F := Ideal) m ρ)

/-- Every run of `GmlpReferenceIdeal` ends with its arguments as they were and its counters at zero. -/
theorem frame_GmlpReferenceIdeal : Cert.quiescent_GmlpReferenceIdeal (hGmlpReferenceIdeal := Cert.GmlpReferenceIdeal.Gen.facts) := fun m ρ _ =>
  (θ_run Cert.GmlpReferenceIdeal.defs _ _).mono (fun r h => ⟨fun c => (h c).2.2, Idealize.ShloMosaic.sem_eq_zero_of_no_sems (by decide) r.2⟩)
    (Cert.GmlpReferenceIdeal.Value.run (F := Ideal) m ρ)

theorem claim : Cert.Claim :=
  ⟨Cert.PackKernel.Gen.facts,
   Cert.PackReference.Gen.facts,
   Cert.InprojKernel.Gen.facts,
   Cert.InprojKernelIdeal.Gen.facts,
   Cert.InprojReferenceIdeal.Gen.facts,
   Cert.MergeKernel.Gen.facts,
   Cert.MergeKernelIdeal.Gen.facts,
   Cert.MergeReferenceIdeal.Gen.facts,
   Cert.AttnKernel.Gen.facts,
   Cert.AttnKernelIdeal.Gen.facts,
   Cert.AttnReferenceIdeal.Gen.facts,
   Cert.GmlpKernel.Gen.facts,
   Cert.GmlpKernelIdeal.Gen.facts,
   Cert.GmlpReferenceIdeal.Gen.facts,
   Cert.Pre_finite_attn.Gen.facts,
   fun m ρ _ => Cert.PackKernel.Gen.frame m ρ,
   frame_PackReference,
   fun m ρ _ => Cert.InprojKernel.Gen.frame m ρ,
   fun m ρ _ => Cert.InprojKernelIdeal.Gen.frame m ρ,
   frame_InprojReferenceIdeal,
   fun m ρ _ => Cert.MergeKernel.Gen.frame m ρ,
   fun m ρ _ => Cert.MergeKernelIdeal.Gen.frame m ρ,
   frame_MergeReferenceIdeal,
   fun m ρ _ => Cert.AttnKernel.Gen.frame m ρ,
   fun m ρ _ => Cert.AttnKernelIdeal.Gen.frame m ρ,
   fun m ρ _ => Cert.AttnKernelIdeal.Gen.frame m ρ,
   frame_AttnReferenceIdeal,
   fun m ρ _ => frame_AttnReferenceIdeal m ρ trivial,
   fun m ρ _ => Cert.GmlpKernel.Gen.frame m ρ,
   fun m ρ _ => Cert.GmlpKernelIdeal.Gen.frame m ρ,
   frame_GmlpReferenceIdeal,
   pack_bitexact,
   trivial,
   inproj_algebraic,
   trivial,
   merge_algebraic,
   IdealRules.named_const.statement Cert.AttnKernelIdeal.κ "mask" .f32 0xF149F2CA#32 ⊥ rfl,
   attn_algebraic,
   trivial,
   gmlp_algebraic⟩

end Cert.Proof

end
